-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S32 : Shape := ⟨1, ![32]⟩
abbrev S8x2048x1024 : Shape := ⟨3, ![8, 2048, 1024]⟩
abbrev S8 : Shape := ⟨1, ![8]⟩
abbrev S1x2048x128 : Shape := ⟨3, ![1, 2048, 128]⟩
abbrev S128x2048 : Shape := ⟨2, ![128, 2048]⟩
abbrev S2048x256 : Shape := ⟨2, ![2048, 256]⟩
abbrev S2048x128 : Shape := ⟨2, ![2048, 128]⟩
abbrev S1x128 : Shape := ⟨2, ![1, 128]⟩
abbrev S1 : Shape := ⟨1, ![1]⟩
abbrev S128x128 : Shape := ⟨2, ![128, 128]⟩
abbrev S1x256x128 : Shape := ⟨3, ![1, 256, 128]⟩
abbrev S256x128 : Shape := ⟨2, ![256, 128]⟩
abbrev S256x256 : Shape := ⟨2, ![256, 256]⟩
abbrev S16x8x128 : Shape := ⟨3, ![16, 8, 128]⟩
abbrev S8x128 : Shape := ⟨2, ![8, 128]⟩
abbrev S32x8x128 : Shape := ⟨3, ![32, 8, 128]⟩
abbrev S128 : Shape := ⟨1, ![128]⟩
abbrev S128x256 : Shape := ⟨2, ![128, 256]⟩
abbrev S1x128x128 : Shape := ⟨3, ![1, 128, 128]⟩

abbrev nBuf : Space → Nat
  | .hbm => 7
  | .vmem => 11
  | .smem => 3
  | _ => 0

abbrev bufTy : (tb : Table) → Fin (tcTables nBuf tb) → BufTy
  | .hbm, ⟨0, _⟩ => ⟨S8x2048x4096, .fp8e4m3⟩
  | .hbm, ⟨1, _⟩ => ⟨S32, .f32⟩
  | .hbm, ⟨2, _⟩ => ⟨S8x2048x1024, .fp8e4m3⟩
  | .hbm, ⟨3, _⟩ => ⟨S8, .f32⟩
  | .hbm, ⟨4, _⟩ => ⟨S8x2048x1024, .fp8e4m3⟩
  | .hbm, ⟨5, _⟩ => ⟨S8, .f32⟩
  | .hbm, ⟨6, _⟩ => ⟨S8x2048x4096, .bf16⟩
  | .local _ .vmem, ⟨0, _⟩ => ⟨S1x2048x128, .fp8e4m3⟩
  | .local _ .vmem, ⟨1, _⟩ => ⟨S1x2048x128, .fp8e4m3⟩
  | .local _ .vmem, ⟨2, _⟩ => ⟨S1x2048x128, .fp8e4m3⟩
  | .local _ .vmem, ⟨3, _⟩ => ⟨S1x2048x128, .fp8e4m3⟩
  | .local _ .vmem, ⟨4, _⟩ => ⟨S1x2048x128, .fp8e4m3⟩
  | .local _ .vmem, ⟨5, _⟩ => ⟨S1x2048x128, .fp8e4m3⟩
  | .local _ .vmem, ⟨6, _⟩ => ⟨S1x2048x128, .bf16⟩
  | .local _ .vmem, ⟨7, _⟩ => ⟨S1x2048x128, .bf16⟩
  | .local _ .vmem, ⟨8, _⟩ => ⟨S128x2048, .fp8e4m3⟩
  | .local _ .vmem, ⟨9, _⟩ => ⟨S2048x256, .f32⟩
  | .local _ .vmem, ⟨10, _⟩ => ⟨S2048x256, .fp8e4m3⟩
  | .local _ .smem, ⟨0, _⟩ => ⟨S32, .f32⟩
  | .local _ .smem, ⟨1, _⟩ => ⟨S8, .f32⟩
  | .local _ .smem, ⟨2, _⟩ => ⟨S8, .f32⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 32], ![false, false]⟩

def k0_off1 (i : grid0.Coords) : Fin 1 → Nat :=
  let arg1 : BitVec 32 := BitVec.ofNat 32 (i 1).val
  let v31 : Index := Scalar.indexCast arg1
  ![v31.toNat]
def k0_off2 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v35 : Index := Scalar.indexCast v16
  ![v35.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x4096 : Shape := ⟨3, ![8, 2048, 4096]⟩
abbrev S32 : Shape := ⟨1, ![32]⟩
abbrev S8x2048x1024 : Shape := ⟨3, ![8, 2048, 1024]⟩
abbrev S8 : Shape := ⟨1, ![8]⟩
abbrev S8x2048x8x4x128 : Shape := ⟨5, ![8, 2048, 8, 4, 128]⟩
abbrev S8x2048x8x128 : Shape := ⟨4, ![8, 2048, 8, 128]⟩
abbrev S8x4 : Shape := ⟨2, ![8, 4]⟩
abbrev S8x1 : Shape := ⟨2, ![8, 1]⟩
abbrev S8x8x2048x2048x4 : Shape := ⟨5, ![8, 8, 2048, 2048, 4]⟩
abbrev S8x8x4x2048x2048 : Shape := ⟨5, ![8, 8, 4, 2048, 2048]⟩
abbrev S1x8x4x1x1 : Shape := ⟨5, ![1, 8, 4, 1, 1]⟩
abbrev S2048x2048 : Shape := ⟨2, ![2048, 2048]⟩
abbrev S1x1x1x2048x2048 : Shape := ⟨5, ![1, 1, 1, 2048, 2048]⟩
abbrev S8x8x4x2048 : Shape := ⟨4, ![8, 8, 4, 2048]⟩
abbrev S8x8x4x2048x1 : Shape := ⟨5, ![8, 8, 4, 2048, 1]⟩
abbrev S8x8x128x4x2048 : Shape := ⟨5, ![8, 8, 128, 4, 2048]⟩
abbrev S8x2048x8x4 : Shape := ⟨4, ![8, 2048, 8, 4]⟩
abbrev S8x2048x8x4x1 : Shape := ⟨5, ![8, 2048, 8, 4, 1]⟩
abbrev S1x1x8x1x1 : Shape := ⟨5, ![1, 1, 8, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x4096, .fp8e4m3⟩
  | .hbm, ⟨1, _⟩ => ⟨S32, .f32⟩
  | .hbm, ⟨2, _⟩ => ⟨S8x2048x1024, .fp8e4m3⟩
  | .hbm, ⟨3, _⟩ => ⟨S8, .f32⟩
  | .hbm, ⟨4, _⟩ => ⟨S8x2048x1024, .fp8e4m3⟩
  | .hbm, ⟨5, _⟩ => ⟨S8, .f32⟩
  | .hbm, ⟨6, _⟩ => ⟨S8x2048x4096, .bf16⟩
  | .local _ .vmem, ⟨0, _⟩ => ⟨S8x2048x4096, .fp8e4m3⟩
  | .local _ .vmem, ⟨1, _⟩ => ⟨S32, .f32⟩
  | .local _ .vmem, ⟨2, _⟩ => ⟨S8x2048x1024, .fp8e4m3⟩
  | .local _ .vmem, ⟨3, _⟩ => ⟨S8, .f32⟩
  | .local _ .vmem, ⟨4, _⟩ => ⟨S8x2048x1024, .fp8e4m3⟩
  | .local _ .vmem, ⟨5, _⟩ => ⟨S8, .f32⟩
  | .local _ .vmem, ⟨6, _⟩ => ⟨S8x2048x4096, .bf16⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Tile.lean ====
/- What the kernel's vectors are, one definition per step of the code: a query tile `t` of 256 queries is scored against the
   key chunks `0 … t` of 256 keys each, in two halves of 128 queries; the last chunk is masked. -/
module

public import proofs.«01_k».proof.Proof.Gen.KernelIdeal.Skeleton
public import Idealize.ShloMosaic.Lib.Pipeline.ValueKit

@[expose] public section

noncomputable section

namespace Cert.Attn

open Idealize.ShloMosaic Idealize.ShloMosaic.TcCoe Cert.KernelIdeal Cert.KernelIdeal.Gen

/-- Rows `a … a + 255` of a block of 2048 rows of 128 lanes. -/
def rowsOf (x : Vec Ideal S1x2048x128 .fp8e4m3) (a : ℕ) : Vec Ideal S1x256x128 .fp8e4m3 :=
  fun j => x (fun k => ⟨(![0, a, 0] k + (j k).val) % S1x2048x128.size k, Nat.mod_lt _ (by fin_cases k <;> decide)⟩)

/-- Columns `a … a + 255` of the transposed values. -/
def colsOf (x : Vec Ideal S128x2048 .fp8e4m3) (a : ℕ) : Vec Ideal S128x256 .fp8e4m3 :=
  fun j => x (fun k => ⟨(![0, a] k + (j k).val) % S128x2048.size k, Nat.mod_lt _ (by fin_cases k <;> decide)⟩)

/-- The factor of the scores, as the code multiplies it up. -/
def coef (qs ks : Elt Ideal .f32) : FVec Ideal S1x128 .f32 := k0_pay6 (k0_pay4 qs ks) k0_pay5

/-- The factor of the output, as the code multiplies it up. -/
def oscale (vs : Elt Ideal .f32) : FVec Ideal S1x128 .f32 := k0_pay7 k0_pay3 vs

/-- The products of 256 keys (rows) with 256 queries (columns). -/
def scores (q k : Vec Ideal S1x256x128 .fp8e4m3) : FVec Ideal S256x256 .f32 :=
  matmul (φ₁ := .fp8e4m3) (φ₂ := .fp8e4m3) dot_S256x128_S256x128_S256x256_1_1_0_0_n_n none (shapeCast S256x128 k shapeCasts_S1x256x128_S256x128)
    (shapeCast S256x128 q shapeCasts_S1x256x128_S256x128) (constant S256x256 .f32 0x00000000#32)

/-- Scaled scores of the first 128 queries with 256 keys. -/
def sFull0 (cf : FVec Ideal S1x128 .f32) (s : FVec Ideal S256x256 .f32) : FVec Ideal S256x128 .f32 :=
  mulf (extractStridedSlice S256x128 ![0, 0] s slices_S256x256_o0_0_S256x128) (broadcastTo S256x128 cf broadcasts_S1x128_S256x128)

/-- Scaled scores of the last 128 queries with 256 keys. -/
def sFull1 (cf : FVec Ideal S1x128 .f32) (s : FVec Ideal S256x256 .f32) : FVec Ideal S256x128 .f32 :=
  mulf (extractStridedSlice S256x128 ![0, 128] s slices_S256x256_o0_128_S256x128) (broadcastTo S256x128 cf broadcasts_S1x128_S256x128)

/-- The triangle mask over 128 keys and 128 queries: where the key is later than the query, `-∞`. -/
def masked (x : FVec Ideal S128x128 .f32) : FVec Ideal S128x128 .f32 :=
  select k0_pay8 x (broadcast S128x128 (Scalar.ofBits .f32 0xFF800000#32))

/-- Masked scores of the first 128 queries of a tile with the 128 keys at their positions. -/
def sDiag0 (cf : FVec Ideal S1x128 .f32) (s : FVec Ideal S256x256 .f32) : FVec Ideal S128x128 .f32 :=
  masked (mulf (extractStridedSlice S128x128 ![0, 0] s slices_S256x256_o0_0_S128x128) (broadcastTo S128x128 cf broadcasts_S1x128_S128x128))

/-- 128 rows of scores over 128 rows of scores. -/
def stack (u w : FVec Ideal S128x128 .f32) : FVec Ideal S256x128 .f32 :=
  concatenate S256x128 0 [⟨S128x128, u⟩, ⟨S128x128, w⟩] concatenates_S128x128_S128x128_S256x128_d0

theorem concatenate_eq_stack (u w : FVec Ideal S128x128 .f32) (h) :
    concatenate S256x128 0 [⟨S128x128, u⟩, ⟨S128x128, w⟩] h = stack u w := rfl

/-- Masked scores of the last 128 queries of a tile with the 256 keys of the tile's positions. -/
def sDiag1 (cf : FVec Ideal S1x128 .f32) (s : FVec Ideal S256x256 .f32) : FVec Ideal S256x128 .f32 :=
  stack (extractStridedSlice S128x128 ![0, 0] (sFull1 cf s) slices_S256x128_o0_0_S128x128)
    (masked (extractStridedSlice S128x128 ![128, 0] (sFull1 cf s) slices_S256x128_o128_0_S128x128))

/-- Maxima of 256 rows, eight interleaved. -/
def maxFull (x : FVec Ideal S256x128 .f32) : FVec Ideal S8x128 .f32 :=
  multiReduction .maximumf [0] S8x128 (shapeCast S32x8x128 x shapeCasts_S256x128_S32x8x128) 0xFF800000#32 reduces_S32x8x128_S8x128 (.inl rfl) rfl

/-- Maxima of 128 rows, eight interleaved. -/
def maxHalf (x : FVec Ideal S128x128 .f32) : FVec Ideal S8x128 .f32 :=
  multiReduction .maximumf [0] S8x128 (shapeCast S16x8x128 x shapeCasts_S128x128_S16x8x128) 0xFF800000#32 reduces_S16x8x128_S8x128 (.inl rfl) rfl

/-- Sums of 256 rows, eight interleaved. -/
def sumFull (x : FVec Ideal S256x128 .f32) : FVec Ideal S8x128 .f32 :=
  multiReduction .add [0] S8x128 (shapeCast S32x8x128 x shapeCasts_S256x128_S32x8x128) 0x00000000#32 reduces_S32x8x128_S8x128 (.inl rfl) rfl

/-- Sums of 128 rows, eight interleaved. -/
def sumHalf (x : FVec Ideal S128x128 .f32) : FVec Ideal S8x128 .f32 :=
  multiReduction .add [0] S8x128 (shapeCast S16x8x128 x shapeCasts_S128x128_S16x8x128) 0x00000000#32 reduces_S16x8x128_S8x128 (.inl rfl) rfl

/-- `op` folded, from the left, over the vectors of the chunks `0 … n` and then over the vector `d` of the last chunk. -/
def chain {α : Type} (op : α → α → α) (f : ℕ → α) (d : α) : ℕ → α
  | 0 => d
  | n + 1 => op (pre n) d
where
  /-- The fold over the chunks `0 … n`. -/
  pre : ℕ → α
  | 0 => f 0
  | n + 1 => op (pre n) (f (n + 1))

/-- The shift of the exponent: the column maximum less 8. -/
def shift (mx : FVec Ideal S8x128 .f32) : FVec Ideal S1x128 .f32 :=
  subf (shapeCast S1x128 (multiReduction .maximumf [0] S128 mx 0xFF800000#32 reduces_S8x128_S128 (.inl rfl) rfl) shapeCasts_S128_S1x128)
    (broadcast S1x128 (Scalar.ofBits .f32 0x41000000#32))

/-- The probabilities, times 256, of 256 keys. -/
def pFull (s : FVec Ideal S256x128 .f32) (sh : FVec Ideal S1x128 .f32) : FVec Ideal S256x128 .f32 :=
  exp2 (subf (shapeCast S256x128 s shapeCasts_S256x128_S256x128) (broadcastTo S256x128 sh broadcasts_S1x128_S256x128))

/-- The probabilities, times 256, of 128 keys. -/
def pHalf (s : FVec Ideal S128x128 .f32) (sh : FVec Ideal S1x128 .f32) : FVec Ideal S128x128 .f32 :=
  exp2 (subf (shapeCast S128x128 s shapeCasts_S128x128_S128x128) (broadcastTo S128x128 sh broadcasts_S1x128_S128x128))

/-- The fp8 codes of 256 keys' probabilities. -/
def codeFull (p : FVec Ideal S256x128 .f32) : FVec Ideal S256x128 .fp8e4m3 :=
  shapeCast S256x128 (truncf .fp8e4m3 (minimumf (broadcast S256x128 (Scalar.ofBits .f32 0x43E00000#32))
    (maximumf (broadcast S256x128 (Scalar.ofBits .f32 0xC3E00000#32)) p)) bitsLt_fp8e4m3_f32) shapeCasts_S256x128_S256x128

/-- The fp8 codes of 128 keys' probabilities. -/
def codeHalf (p : FVec Ideal S128x128 .f32) : FVec Ideal S128x128 .fp8e4m3 :=
  shapeCast S128x128 (truncf .fp8e4m3 (minimumf (broadcast S128x128 (Scalar.ofBits .f32 0x43E00000#32))
    (maximumf (broadcast S128x128 (Scalar.ofBits .f32 0xC3E00000#32)) p)) bitsLt_fp8e4m3_f32) shapeCasts_S128x128_S128x128

/-- 128 rows of zero codes. -/
def zeroHalf : FVec Ideal S128x128 .fp8e4m3 :=
  shapeCast S128x128 (broadcast S128x128 (Scalar.ofBits .fp8e4m3 0x00#8)) shapeCasts_S128x128_S128x128

/-- The two halves of a chunk's codes side by side. -/
def besides (w0 w1 : FVec Ideal S256x128 .fp8e4m3) : Vec Ideal S256x256 .fp8e4m3 := fun j =>
  if h : (j 1).val < 128 then w0 (fun k => ⟨(j k).val % S256x128.size k, Nat.mod_lt _ (by fin_cases k <;> decide)⟩)
  else w1 (fun k => ⟨((j k).val - ![0, 128] k) % S256x128.size k, Nat.mod_lt _ (by fin_cases k <;> decide)⟩)

/-- 128 rows over 128 rows. -/
def above (w z : FVec Ideal S128x128 .fp8e4m3) : FVec Ideal S256x128 .fp8e4m3 := fun j =>
  if h : (j 0).val < 128 then w (fun k => ⟨(j k).val % S128x128.size k, Nat.mod_lt _ (by fin_cases k <;> decide)⟩)
  else z (fun k => ⟨((j k).val - ![128, 0] k) % S128x128.size k, Nat.mod_lt _ (by fin_cases k <;> decide)⟩)

/-- Values of a chunk times the chunk's codes. -/
def pv (v : Vec Ideal S128x256 .fp8e4m3) (p : Vec Ideal S256x256 .fp8e4m3) : FVec Ideal S128x256 .f32 :=
  matmul (φ₁ := .fp8e4m3) (φ₂ := .fp8e4m3) dot_S128x256_S256x256_S128x256_1_0_0_1_n_n none v p (constant S128x256 .f32 0x00000000#32)

/-- The last step: the sum of the codes' products scaled, divided by the sum of the probabilities, transposed. -/
def finish (acc : FVec Ideal S128x128 .f32) (osc : FVec Ideal S1x128 .f32) (l : FVec Ideal S8x128 .f32) : FVec Ideal S1x128x128 .bf16 :=
  shapeCast S1x128x128 (truncf .bf16 (transpose S128x128 [1, 0] (mulf (mulf acc (broadcastTo S128x128 osc broadcasts_S1x128_S128x128))
    (broadcastTo S128x128 (divf (broadcast S1x128 (Scalar.ofBits .f32 0x3F800000#32))
      (mulf (shapeCast S1x128 (multiReduction .add [0] S128 l 0x00000000#32 reduces_S8x128_S128 (.inl rfl) rfl) shapeCasts_S128_S1x128)
        (broadcast S1x128 (Scalar.ofBits .f32 0x3B800000#32)))) broadcasts_S1x128_S128x128))
    transposes_S128x128_p1_0_S128x128) bitsLt_bf16_f32) shapeCasts_S128x128_S1x128x128

section Tile

variable (cf osc : FVec Ideal S1x128 .f32) (q k : Vec Ideal S1x2048x128 .fp8e4m3) (vt : Vec Ideal S128x2048 .fp8e4m3) (t : ℕ)

/-- The products of chunk `c` with tile `t`. -/
def sc (c : ℕ) : FVec Ideal S256x256 .f32 := scores (rowsOf q (256 * t)) (rowsOf k (256 * c))

/-- The first half's shift. -/
def shift0 : FVec Ideal S1x128 .f32 :=
  shift (chain maximumf (fun c => maxFull (sFull0 cf (sc q k t c))) (maxHalf (sDiag0 cf (sc q k t t))) t)

/-- The second half's shift. -/
def shift1 : FVec Ideal S1x128 .f32 :=
  shift (chain maximumf (fun c => maxFull (sFull1 cf (sc q k t c))) (maxFull (sDiag1 cf (sc q k t t))) t)

/-- The first half's probabilities at a chunk before the last, -/
def p0 (c : ℕ) : FVec Ideal S256x128 .f32 := pFull (sFull0 cf (sc q k t c)) (shift0 cf q k t)

/-- at the last; -/
def pd0 : FVec Ideal S128x128 .f32 := pHalf (sDiag0 cf (sc q k t t)) (shift0 cf q k t)

/-- the second half's at a chunk before the last, -/
def p1 (c : ℕ) : FVec Ideal S256x128 .f32 := pFull (sFull1 cf (sc q k t c)) (shift1 cf q k t)

/-- at the last. -/
def pd1 : FVec Ideal S256x128 .f32 := pFull (sDiag1 cf (sc q k t t)) (shift1 cf q k t)

/-- The tile's sum of values times codes, both halves. -/
def acc : FVec Ideal S128x256 .f32 :=
  chain addf (fun c => pv (colsOf vt (256 * c)) (besides (codeFull (p0 cf q k t c)) (codeFull (p1 cf q k t c))))
    (pv (colsOf vt (256 * t)) (besides (above (codeHalf (pd0 cf q k t)) zeroHalf) (codeFull (pd1 cf q k t)))) t

/-- What tile `t` stores for its first 128 queries. -/
def out0 : FVec Ideal S1x128x128 .bf16 :=
  finish (extractStridedSlice S128x128 ![0, 0] (acc cf q k vt t) slices_S128x256_o0_0_S128x128) osc
    (chain addf (fun c => sumFull (p0 cf q k t c)) (sumHalf (pd0 cf q k t)) t)

/-- What tile `t` stores for its last 128 queries. -/
def out1 : FVec Ideal S1x128x128 .bf16 :=
  finish (extractStridedSlice S128x128 ![0, 128] (acc cf q k vt t) slices_S128x256_o0_128_S128x128) osc
    (chain addf (fun c => sumFull (p1 cf q k t c)) (sumFull (pd1 cf q k t)) t)

/-- What the body stores at rows `128 n … 128 n + 127`: half `n % 2` of tile `n / 2`. -/
def outAt (n : ℕ) : FVec Ideal S1x128x128 .bf16 := if n % 2 = 0 then out0 cf osc q k vt (n / 2) else out1 cf osc q k vt (n / 2)

theorem inb_out (n : ℕ) (h : n < 16) : ∀ a, ![0, 128 * n, 0] a + ![1, 128, 128] a ≤ S1x2048x128.size a := by
  intro a
  fin_cases a <;> simp [Shape.size, S1x2048x128]
  omega

/-- The store there. -/
def outPiece (n : ℕ) (h : n < 16) : View.Piece (Elt Ideal) S1x2048x128 .bf16 :=
  ⟨Rect.unit (s := S1x2048x128) ![0, 128 * n, 0] ![1, 128, 128] (inb_out n h), outAt cf osc q k vt n⟩

end Tile

/-- The query scale the grid point's head reads, -/
def qsAt (i : grid0.Coords) (x : Vec Ideal S32 .f32) : Elt Ideal .f32 :=
  View.ld x (Rect.unit (s := S32) (k0_off1 i) S1.size (k0_off1_inb i)) (Shape.Idx.first (s := S1) (by decide))

/-- and the key or value scale of its group of heads. -/
def ksAt (i : grid0.Coords) (x : Vec Ideal S8 .f32) : Elt Ideal .f32 :=
  View.ld x (Rect.unit (s := S8) (k0_off2 i) S1.size (k0_off2_inb i)) (Shape.Idx.first (s := S1) (by decide))

end Cert.Attn

end
-- ==== Proof.Loads.lean ====
/- What the loads of the kernel's body give: a block's rows, the transposed values' columns, and the codes of a chunk as the
   two or three stores before the load left them. -/
module

public import proofs.«01_k».proof.Proof.Tile
public import Idealize.ShloMosaic.Lib.Pipeline.ReadBack
public import Idealize.ShloMosaic.Lib.Pipeline.ValueKit

@[expose] public section

set_option maxRecDepth 16384

noncomputable section

namespace Cert.Attn

open Idealize.ShloMosaic Idealize.ShloMosaic.TcCoe Cert.KernelIdeal Cert.KernelIdeal.Gen

/-- A load of 256 rows at `a` is `rowsOf … a`. -/
theorem ld_rows (x : Vec Ideal S1x2048x128 .fp8e4m3) (a : ℕ) (h) :
    View.ld x (Rect.unit (s := S1x2048x128) ![0, a, 0] ![1, 256, 128] h) = rowsOf x a := by
  have h1 : a + 256 ≤ 2048 := h 1
  funext j
  refine View.ld_unit_apply_of x _ _ h j _ fun k => ?_
  have hj : ∀ k, (j k).val < S1x256x128.size k := fun k => (j k).isLt
  have h0 := hj 0; have h1' := hj 1; have h2 := hj 2
  simp only [Shape.size, S1x256x128] at h0 h1' h2
  refine Nat.mod_eq_of_lt ?_
  fin_cases k <;> simp [Shape.size, S1x2048x128] at * <;> omega

/-- A load of 256 columns at `a` is `colsOf … a`. -/
theorem ld_cols (x : Vec Ideal S128x2048 .fp8e4m3) (a : ℕ) (h) :
    View.ld x (Rect.unit (s := S128x2048) ![0, a] ![128, 256] h) = colsOf x a := by
  have h1 : a + 256 ≤ 2048 := h 1
  funext j
  refine View.ld_unit_apply_of x _ _ h j _ fun k => ?_
  have hj : ∀ k, (j k).val < S128x256.size k := fun k => (j k).isLt
  have h0 := hj 0; have h1' := hj 1
  simp only [Shape.size, S128x256] at h0 h1'
  refine Nat.mod_eq_of_lt ?_
  fin_cases k <;> simp [Shape.size, S128x2048] at * <;> omega

/-- Under the last store's rectangle the contents are its payload, -/
theorem canon_hit {S : Shape} {e : EltTy} (off size : Fin S.rank → ℕ) (inb : ∀ a, off a + size a ≤ S.size a) (w : (Rect.unit off size inb).shape.Idx → Elt Ideal e)
    (L : List (View.Piece (Elt Ideal) S e)) (y : S.Idx) (x : (Rect.unit off size inb).shape.Idx) (hx : ∀ a, (y a).val = off a + (x a).val) :
    View.canon (⟨Rect.unit off size inb, w⟩ :: L) y = w x := by
  have : y = (Rect.unit off size inb).emb x := funext fun a => Fin.ext (by rw [hx a]; simp [Rect.emb_apply])
  rw [this, View.canon_cons_emb]

/-- off it, the earlier stores'. -/
theorem canon_miss {S : Shape} {e : EltTy} (off size : Fin S.rank → ℕ) (inb : ∀ a, off a + size a ≤ S.size a) (w : (Rect.unit off size inb).shape.Idx → Elt Ideal e)
    (L : List (View.Piece (Elt Ideal) S e)) (y : S.Idx) (a : Fin S.rank) (h : (y a).val < off a ∨ off a + size a ≤ (y a).val) :
    View.canon (⟨Rect.unit off size inb, w⟩ :: L) y = View.canon L y := by
  refine View.canon_cons_of_not_mem _ _ fun hm => ?_
  have hm' : y ∈ (Rect.unit off size inb).set := hm
  have := Rect.mem_set_unit.mp hm' a
  omega

section Codes

variable {sig : RefSig} {κ : Kind} {sp : Space} (v : View sig κ sp S2048x256 .fp8e4m3)

/-- A chunk's codes after the stores of its two halves. -/
theorem readCov_besides (a : ℕ) (h0 h1 h) (w0 w1 : FVec Ideal S256x128 .fp8e4m3) (L : List (View.Piece (Elt Ideal) S2048x256 .fp8e4m3)) :
    v.readCov (⟨Rect.unit (s := S2048x256) ![a, 128] ![256, 128] h1, w1⟩ :: ⟨Rect.unit (s := S2048x256) ![a, 0] ![256, 128] h0, w0⟩ :: L)
      (Rect.unit (s := S2048x256) ![a, 0] ![256, 256] h).toLoadRect = besides w0 w1 := by
  rw [View.readCov_eq_canon']
  funext j
  have j0 : (j 0).val < 256 := (j 0).isLt
  have j1 : (j 1).val < 256 := (j 1).isLt
  unfold besides
  split_ifs with hc
  · rw [canon_miss _ _ _ _ _ _ 1 (Or.inl (by simpa [LoadRect.idx_apply] using hc))]
    refine canon_hit _ _ _ _ _ _ _ fun k => ?_
    fin_cases k <;> simp [LoadRect.idx_apply, Shape.size, S256x128] at * <;> omega
  · refine canon_hit _ _ _ _ _ _ _ fun k => ?_
    fin_cases k <;> simp [LoadRect.idx_apply, Shape.size, S256x128] at * <;> omega

/-- The last chunk's codes after the stores of its two halves, the first half's in two parts. -/
theorem readCov_above (a b : ℕ) (hb : b = a + 128) (h0 hz h1 h) (w0 z : FVec Ideal S128x128 .fp8e4m3) (w1 : FVec Ideal S256x128 .fp8e4m3)
    (L : List (View.Piece (Elt Ideal) S2048x256 .fp8e4m3)) :
    v.readCov (⟨Rect.unit (s := S2048x256) ![a, 128] ![256, 128] h1, w1⟩ :: ⟨Rect.unit (s := S2048x256) ![b, 0] ![128, 128] hz, z⟩
        :: ⟨Rect.unit (s := S2048x256) ![a, 0] ![128, 128] h0, w0⟩ :: L)
      (Rect.unit (s := S2048x256) ![a, 0] ![256, 256] h).toLoadRect = besides (above w0 z) w1 := by
  subst hb
  rw [View.readCov_eq_canon']
  funext j
  have j0 : (j 0).val < 256 := (j 0).isLt
  have j1 : (j 1).val < 256 := (j 1).isLt
  unfold besides
  split_ifs with hc
  · rw [canon_miss _ _ _ _ _ _ 1 (Or.inl (by simpa [LoadRect.idx_apply] using hc))]
    unfold above
    split_ifs with hr
    · rw [canon_miss _ _ _ _ _ _ 0 (Or.inl (by simp [LoadRect.idx_apply, Shape.size, S256x128] at hr ⊢; omega))]
      refine canon_hit _ _ _ _ _ _ _ fun k => ?_
      fin_cases k <;> simp [LoadRect.idx_apply, Shape.size, S256x128, S128x128] at * <;> omega
    · refine canon_hit _ _ _ _ _ _ _ fun k => ?_
      fin_cases k <;> simp [LoadRect.idx_apply, Shape.size, S256x128, S128x128] at * <;> omega
  · refine canon_hit _ _ _ _ _ _ _ fun k => ?_
    fin_cases k <;> simp [LoadRect.idx_apply, Shape.size, S256x128] at * <;> omega

end Codes

end Cert.Attn

end
-- ==== Proof.Pieces.lean ====
/- The body's stores into its output, in both of its cases: sixteen blocks of 128 rows, each of them the same function of the
   blocks the body reads and of the transposed values. -/
module

public import proofs.«01_k».proof.Proof.Loads
public import proofs.«01_k».proof.Proof.Gen.KernelIdeal.Frame

@[expose] public section

set_option maxRecDepth 16384

noncomputable section

namespace Cert.Attn

open Idealize.ShloMosaic Idealize.ShloMosaic.TcCoe Cert.KernelIdeal Cert.KernelIdeal.Gen

/-- The sixteen stores, last first. -/
def stores (cf osc : FVec Ideal S1x128 .f32) (q k : Vec Ideal S1x2048x128 .fp8e4m3) (vt : Vec Ideal S128x2048 .fp8e4m3) :
    List (View.Piece (Elt Ideal) S1x2048x128 .bf16) :=
  List.ofFn fun n : Fin 16 => outPiece cf osc q k vt (15 - n.val) (by omega)

theorem stores_eq (cf osc : FVec Ideal S1x128 .f32) (q k : Vec Ideal S1x2048x128 .fp8e4m3) (vt : Vec Ideal S128x2048 .fp8e4m3) :
    stores cf osc q k vt = [outPiece cf osc q k vt 15 (by decide),
      outPiece cf osc q k vt 14 (by decide),
      outPiece cf osc q k vt 13 (by decide),
      outPiece cf osc q k vt 12 (by decide),
      outPiece cf osc q k vt 11 (by decide),
      outPiece cf osc q k vt 10 (by decide),
      outPiece cf osc q k vt 9 (by decide),
      outPiece cf osc q k vt 8 (by decide),
      outPiece cf osc q k vt 7 (by decide),
      outPiece cf osc q k vt 6 (by decide),
      outPiece cf osc q k vt 5 (by decide),
      outPiece cf osc q k vt 4 (by decide),
      outPiece cf osc q k vt 3 (by decide),
      outPiece cf osc q k vt 2 (by decide),
      outPiece cf osc q k vt 1 (by decide),
      outPiece cf osc q k vt 0 (by decide)] := rfl

section Cases

variable (c : Dev nD) (i : grid0.Coords)
  (arg2 : Memref sig .tc .smem S32 .f32) (harg2 : arg2.IsWhole)
  (arg3 : Memref sig .tc .smem S8 .f32) (harg3 : arg3.IsWhole)
  (arg4 : Memref sig .tc .smem S8 .f32) (harg4 : arg4.IsWhole)
  (arg5 : Memref sig .tc .vmem S1x2048x128 .fp8e4m3) (harg5 : arg5.IsWhole)
  (arg6 : Memref sig .tc .vmem S1x2048x128 .fp8e4m3) (harg6 : arg6.IsWhole)
  (arg7 : Memref sig .tc .vmem S1x2048x128 .fp8e4m3) (harg7 : arg7.IsWhole)
  (arg8 : Memref sig .tc .vmem S1x2048x128 .bf16) (harg8 : arg8.IsWhole)
  (arg9 : Memref sig .tc .vmem S128x2048 .fp8e4m3) (harg9 : arg9.IsWhole)
  (arg10 : Memref sig .tc .vmem S2048x256 .f32) (harg10 : arg10.IsWhole)
  (arg11 : Memref sig .tc .vmem S2048x256 .fp8e4m3) (harg11 : arg11.IsWhole)
  (x0 : Vec Ideal S32 .f32) (x1 : Vec Ideal S8 .f32) (x2 : Vec Ideal S8 .f32)
  (x3 : Vec Ideal S1x2048x128 .fp8e4m3) (x4 : Vec Ideal S1x2048x128 .fp8e4m3) (x5 : Vec Ideal S1x2048x128 .fp8e4m3)

set_option maxHeartbeats 4000000 in
/-- At the first head of a group the body transposes the values it reads and uses them. -/
theorem stores_A (hc0 : cond0_0 i) :
    (kernelRun0_A (F := Ideal) c i arg2 harg2 arg3 harg3 arg4 harg4 arg5 harg5 arg6 harg6 arg7 harg7 arg8 harg8 arg9 harg9 arg10 harg10 arg11 harg11 hc0 x0 x1 x2 x3 x4 x5).1 =
      stores (coef (qsAt i x0) (ksAt i x1)) (oscale (ksAt i x2)) x3 x4 (k0_pay2 x5) := by
  rw [stores_eq]
  frame_open
  simp (disch := decide) only [↓concatenate_eq_stack, ↓View.readCov_skip, ↓View.readCov_cons_toLoadRect, readCov_besides, readCov_above,
    View.readCov_fill, View.readAt_eq_ld, Memref.IsWhole.read_unread, ld_rows, ld_cols, View.ld_unit_lit']
  rfl

set_option maxHeartbeats 4000000 in
/-- At the other heads it uses the transposed values kept from before. -/
theorem stores_B (hc0 : ¬cond0_0 i) (xs0 : Vec Ideal S128x2048 .fp8e4m3) :
    (kernelRun0_B (F := Ideal) c i arg2 harg2 arg3 harg3 arg4 harg4 arg5 harg5 arg6 harg6 arg7 harg7 arg8 harg8 arg9 harg9 arg10 harg10 arg11 harg11 hc0 x0 x1 x2 x3 x4 x5 xs0).1 =
      stores (coef (qsAt i x0) (ksAt i x1)) (oscale (ksAt i x2)) x3 x4 xs0 := by
  rw [stores_eq]
  frame_open
  simp (disch := decide) only [↓concatenate_eq_stack, ↓View.readCov_skip, ↓View.readCov_cons_toLoadRect, readCov_besides, readCov_above,
    View.readCov_fill, View.readAt_eq_ld, Memref.IsWhole.read_unread, ld_rows, ld_cols, View.ld_unit_lit']
  rfl

end Cases

end Cert.Attn

end
-- ==== Proof.Consts.lean ====
/- The numbers the two programs spell, as the extended reals their bits denote. -/
module

public import Idealize.ShloMosaic.PureOps.Ideal

@[expose] public section

noncomputable section

namespace Cert.Attn

open Idealize.ShloMosaic

/-- The pattern of `-∞`. -/
theorem bits_neg_inf : Ideal.ofBits .f32 0xFF800000#32 = ⊥ := by
  simp [Ideal.ofBits, Ideal.ieee, -EReal.coe_mul]

/-- The pattern of `8`. -/
theorem bits_8 : Ideal.ofBits .f32 0x41000000#32 = ((8 : ℝ) : EReal) := by
  simp [Ideal.ofBits, Ideal.ieee, -EReal.coe_mul]; norm_num

/-- The pattern of `256`. -/
theorem bits_256 : Ideal.ofBits .f32 0x43800000#32 = ((256 : ℝ) : EReal) := by
  simp [Ideal.ofBits, Ideal.ieee, -EReal.coe_mul]; norm_num

/-- The pattern of `1 / 256`. -/
theorem bits_256th : Ideal.ofBits .f32 0x3B800000#32 = ((1 / 256 : ℝ) : EReal) := by
  simp [Ideal.ofBits, Ideal.ieee, -EReal.coe_mul]; norm_num

/-- The pattern of `448`. -/
theorem bits_448 : Ideal.ofBits .f32 0x43E00000#32 = ((448 : ℝ) : EReal) := by
  simp [Ideal.ofBits, Ideal.ieee, -EReal.coe_mul]; norm_num

/-- The pattern of `-448`. -/
theorem bits_neg_448 : Ideal.ofBits .f32 0xC3E00000#32 = ((-448 : ℝ) : EReal) := by
  simp [Ideal.ofBits, Ideal.ieee, -EReal.coe_mul, -EReal.coe_neg]; norm_num

/-- The fp8 pattern of `0`. -/
theorem bits_fp8_zero : Ideal.ofBits .fp8e4m3 0x00#8 = 0 := by
  simp [Ideal.ofBits, Ideal.e4m3fn, Ideal.ieee]

end Cert.Attn

end
-- ==== Proof.Fold.lean ====
/- Maxima and sums over chunks of 256 keys, eight rows interleaved, as maxima and sums over the keys in order. -/
module

public import proofs.«01_k».proof.Proof.Tile
public import proofs.«01_k».proof.Proof.Consts
public import Idealize.ShloMosaic.Lib.Pointwise

@[expose] public section

set_option maxRecDepth 16384

noncomputable section

namespace Cert.Attn

open Idealize.ShloMosaic Idealize.ShloMosaic.TcCoe Cert.KernelIdeal Cert.KernelIdeal.Gen Finset

/-- A map that carries one operation to another carries the chain. -/
theorem chain_map {α β : Type} (op : α → α → α) (op' : β → β → β) (g : α → β) (hg : ∀ a b, g (op a b) = op' (g a) (g b))
    (f : ℕ → α) (d : α) (t : ℕ) : g (chain op f d t) = chain op' (fun c => g (f c)) (g d) t := by
  have pre : ∀ n, g (chain.pre op f n) = chain.pre op' (fun c => g (f c)) n := by
    intro n
    induction n with
    | zero => rfl
    | succ n ih => rw [chain.pre, hg, ih, chain.pre]
  cases t with
  | zero => rfl
  | succ n => rw [chain, hg, pre, chain]

/-- A chain of maxima is below what all its parts are below. -/
theorem chain_max_le (f : ℕ → EReal) (d z : EReal) (t : ℕ) : chain max f d t ≤ z ↔ (∀ c < t, f c ≤ z) ∧ d ≤ z := by
  have pre : ∀ n, chain.pre max f n ≤ z ↔ ∀ c < n + 1, f c ≤ z := by
    intro n
    induction n with
    | zero => simp [chain.pre]
    | succ n ih =>
      rw [chain.pre, max_le_iff, ih]
      exact (Nat.forall_lt_succ_right (p := fun c => f c ≤ z)).symm
  cases t with
  | zero => simp [chain]
  | succ n => rw [chain, max_le_iff, pre]

/-- A chain of sums is the sum of its parts. -/
theorem chain_add (f : ℕ → EReal) (d : EReal) (t : ℕ) : chain (· + ·) f d t = ∑ c ∈ range t, f c + d := by
  have pre : ∀ n, chain.pre (· + ·) f n = ∑ c ∈ range (n + 1), f c := by
    intro n
    induction n with
    | zero => simp [chain.pre]
    | succ n ih => rw [chain.pre, ih, Finset.sum_range_succ _ (n + 1)]
  cases t with
  | zero => simp [chain]
  | succ n => rw [chain, pre]

/-- Eight interleaved sums of `R` terms are one sum of `8 R` terms. -/
theorem sum_interleaved (R : ℕ) (g : ℕ → EReal) : ∑ s : Fin 8, ∑ r : Fin R, g (r.val * 8 + s.val) = ∑ i ∈ range (R * 8), g i := by
  rw [Finset.sum_comm, ← Finset.sum_range (fun i => ∑ s : Fin 8, g (i * 8 + s.val))]
  induction R with
  | zero => simp
  | succ n ih => rw [Finset.sum_range_succ, ih, Nat.succ_mul, Finset.sum_range_add, Finset.sum_range (fun i => g (n * 8 + i))]

/-- Sums over chunks of 256 are one sum. -/
theorem sum_chunks (t : ℕ) (g : ℕ → EReal) : ∑ c ∈ range t, ∑ i ∈ range 256, g (256 * c + i) = ∑ k ∈ range (256 * t), g k := by
  induction t with
  | zero => simp
  | succ n ih => rw [Finset.sum_range_succ, ih, Nat.mul_succ, Finset.sum_range_add]

/-- Where a row of the chunks `c < t` or of the last one, of `R` rows of eight, lies. -/
theorem rows_iff (t R : ℕ) (P : ℕ → Prop) :
    (∀ s : Fin 8, (∀ c < t, ∀ r : Fin 32, P (256 * c + (r.val * 8 + s.val))) ∧ ∀ r : Fin R, P (256 * t + (r.val * 8 + s.val)))
      ↔ ∀ k < 256 * t + R * 8, P k := by
  constructor
  · intro h k hk
    have hs := h ⟨k % 8, Nat.mod_lt _ (by decide)⟩
    by_cases hk' : k < 256 * t
    · have := hs.1 (k / 256) (by omega) ⟨k % 256 / 8, by omega⟩
      have e : 256 * (k / 256) + (k % 256 / 8 * 8 + k % 8) = k := by omega
      rwa [e] at this
    · have := hs.2 ⟨(k - 256 * t) / 8, by omega⟩
      have e : 256 * t + ((k - 256 * t) / 8 * 8 + k % 8) = k := by omega
      rwa [e] at this
  · intro h s
    have := s.isLt
    refine ⟨fun c hc r => h _ ?_, fun r => h _ ?_⟩
    · have := r.isLt; omega
    · have := r.isLt; omega

/-- The maximum of eight rows of maxima. -/
def top (mx : FVec Ideal S8x128 .f32) (b : Fin 128) : EReal := Finset.univ.fold max ⊥ (fun x : Fin 8 => mx (ix2 x b))

theorem top_le (mx : FVec Ideal S8x128 .f32) (b : Fin 128) (z : EReal) : top mx b ≤ z ↔ ∀ s : Fin 8, mx (ix2 s b) ≤ z := by
  unfold top
  rw [Finset.fold_max_le]
  simp

theorem shift_apply (mx : FVec Ideal S8x128 .f32) (b : Fin 128) : shift mx (ix2 0 b) = top mx b - ((8 : ℝ) : EReal) := by
  pointwise [shift]
  rw [bits_neg_inf, bits_8]
  rfl

theorem maxFull_le (x : FVec Ideal S256x128 .f32) (s : Fin 8) (b : Fin 128) (z : EReal) :
    maxFull x (ix2 s b) ≤ z ↔ ∀ r : Fin 32, x (ix2 ⟨r.val * 8 + s.val, by omega⟩ b) ≤ z := by
  pointwise [maxFull]
  rw [bits_neg_inf, Finset.fold_max_le]
  simp

theorem maxHalf_le (x : FVec Ideal S128x128 .f32) (s : Fin 8) (b : Fin 128) (z : EReal) :
    maxHalf x (ix2 s b) ≤ z ↔ ∀ r : Fin 16, x (ix2 ⟨r.val * 8 + s.val, by omega⟩ b) ≤ z := by
  pointwise [maxHalf]
  rw [bits_neg_inf, Finset.fold_max_le]
  simp

theorem sumFull_apply (x : FVec Ideal S256x128 .f32) (s : Fin 8) (b : Fin 128) :
    sumFull x (ix2 s b) = ∑ r : Fin 32, x (ix2 ⟨r.val * 8 + s.val, by omega⟩ b) := by
  pointwise [sumFull]

theorem sumHalf_apply (x : FVec Ideal S128x128 .f32) (s : Fin 8) (b : Fin 128) :
    sumHalf x (ix2 s b) = ∑ r : Fin 16, x (ix2 ⟨r.val * 8 + s.val, by omega⟩ b) := by
  pointwise [sumHalf]

section Column

variable (t : ℕ) (b : Fin 128) (X : ℕ → FVec Ideal S256x128 .f32) (G : ℕ → EReal)
  (hX : ∀ c < t, ∀ i : Fin 256, X c (ix2 i b) = G (256 * c + i.val))

include hX

/-- The maximum over the chunks before the last and a last chunk of 256 keys. -/
theorem top_full (D : FVec Ideal S256x128 .f32) (hD : ∀ i : Fin 256, D (ix2 i b) = G (256 * t + i.val)) (z : EReal) :
    top (chain maximumf (fun c => maxFull (X c)) (maxFull D) t) b ≤ z ↔ ∀ k < 256 * t + 256, G k ≤ z := by
  rw [top_le, ← rows_iff t 32]
  refine forall_congr' fun s => ?_
  rw [chain_map maximumf max (fun x : FVec Ideal S8x128 .f32 => x (ix2 s b)) (fun _ _ => rfl), chain_max_le]
  refine and_congr (forall₂_congr fun c hc => ?_) ?_
  · rw [maxFull_le]
    exact forall_congr' fun r => by rw [hX c hc]
  · rw [maxFull_le]
    exact forall_congr' fun r => by rw [hD]

/-- The maximum over the chunks before the last and a last chunk of 128 keys. -/
theorem top_half (D : FVec Ideal S128x128 .f32) (hD : ∀ i : Fin 128, D (ix2 i b) = G (256 * t + i.val)) (z : EReal) :
    top (chain maximumf (fun c => maxFull (X c)) (maxHalf D) t) b ≤ z ↔ ∀ k < 256 * t + 128, G k ≤ z := by
  rw [top_le, ← rows_iff t 16]
  refine forall_congr' fun s => ?_
  rw [chain_map maximumf max (fun x : FVec Ideal S8x128 .f32 => x (ix2 s b)) (fun _ _ => rfl), chain_max_le]
  refine and_congr (forall₂_congr fun c hc => ?_) ?_
  · rw [maxFull_le]
    exact forall_congr' fun r => by rw [hX c hc]
  · rw [maxHalf_le]
    exact forall_congr' fun r => by rw [hD]

/-- The sum over the chunks before the last, in eight interleaved parts. -/
theorem sum_before (d : Fin 8 → EReal) :
    ∑ s : Fin 8, (∑ c ∈ range t, sumFull (X c) (ix2 s b) + d s) = ∑ k ∈ range (256 * t), G k + ∑ s : Fin 8, d s := by
  rw [Finset.sum_add_distrib, Finset.sum_comm, ← sum_chunks]
  congr 1
  refine Finset.sum_congr rfl fun c hc => ?_
  rw [← sum_interleaved 32 (fun i => G (256 * c + i))]
  refine Finset.sum_congr rfl fun s _ => ?_
  rw [sumFull_apply]
  exact Finset.sum_congr rfl fun r _ => hX c (mem_range.mp hc) _

/-- The sum over the chunks before the last and a last chunk of 256 keys. -/
theorem sum_full (D : FVec Ideal S256x128 .f32) (hD : ∀ i : Fin 256, D (ix2 i b) = G (256 * t + i.val)) :
    ∑ s : Fin 8, chain addf (fun c => sumFull (X c)) (sumFull D) t (ix2 s b) = ∑ k ∈ range (256 * t + 256), G k := by
  simp only [chain_map addf (· + ·) (fun x : FVec Ideal S8x128 .f32 => x (ix2 _ b)) (fun _ _ => rfl), chain_add]
  rw [sum_before t b X G hX, Finset.sum_range_add]
  congr 1
  rw [← sum_interleaved 32 (fun i => G (256 * t + i))]
  refine Finset.sum_congr rfl fun s _ => ?_
  rw [sumFull_apply]
  exact Finset.sum_congr rfl fun r _ => hD _

/-- The sum over the chunks before the last and a last chunk of 128 keys. -/
theorem sum_half (D : FVec Ideal S128x128 .f32) (hD : ∀ i : Fin 128, D (ix2 i b) = G (256 * t + i.val)) :
    ∑ s : Fin 8, chain addf (fun c => sumFull (X c)) (sumHalf D) t (ix2 s b) = ∑ k ∈ range (256 * t + 128), G k := by
  simp only [chain_map addf (· + ·) (fun x : FVec Ideal S8x128 .f32 => x (ix2 _ b)) (fun _ _ => rfl), chain_add]
  rw [sum_before t b X G hX, Finset.sum_range_add]
  congr 1
  rw [← sum_interleaved 16 (fun i => G (256 * t + i))]
  refine Finset.sum_congr rfl fun s _ => ?_
  rw [sumHalf_apply]
  exact Finset.sum_congr rfl fun r _ => hD _

end Column

/-- Columns of the transposed values at an index. -/
theorem colsOf_apply (vt : Vec Ideal S128x2048 .fp8e4m3) (a : ℕ) (d : Fin 128) (i : Fin 256) :
    colsOf vt a (ix2 d i) = vt (ix2 d ⟨(a + i.val) % 2048, Nat.mod_lt _ (by decide)⟩) := by
  unfold colsOf
  congr 1
  funext k
  apply Fin.ext
  match k with
  | ⟨0, _⟩ => show (0 + d.val) % 128 = d.val; omega
  | ⟨1, _⟩ => rfl

/-- Rows of a block at an index. -/
theorem rowsOf_apply (x : Vec Ideal S1x2048x128 .fp8e4m3) (a : ℕ) (i : Fin 256) (d : Fin 128) :
    rowsOf x a (ix3 0 i d) = x (ix3 0 ⟨(a + i.val) % 2048, Nat.mod_lt _ (by decide)⟩ d) := by
  unfold rowsOf
  congr 1
  funext k
  apply Fin.ext
  match k with
  | ⟨0, _⟩ => rfl
  | ⟨1, _⟩ => rfl
  | ⟨2, _⟩ => show (0 + d.val) % 128 = d.val; omega

theorem pv_apply (v : Vec Ideal S128x256 .fp8e4m3) (p : Vec Ideal S256x256 .fp8e4m3) (d : Fin 128) (j : Fin 256) :
    pv v p (ix2 d j) = ∑ i : Fin 256, v (ix2 d i) * p (ix2 i j) := by
  pointwise [pv]

/-- Row `d` of the transposed values at position `k`. -/
def vAt (vt : Vec Ideal S128x2048 .fp8e4m3) (d : Fin 128) (k : ℕ) : EReal := vt (ix2 d ⟨k % 2048, Nat.mod_lt _ (by decide)⟩)

/-- The products with the codes over all chunks of a tile. -/
theorem acc_full (t : ℕ) (vt : Vec Ideal S128x2048 .fp8e4m3) (W : ℕ → Vec Ideal S256x256 .fp8e4m3) (D : Vec Ideal S256x256 .fp8e4m3)
    (d : Fin 128) (j : Fin 256) (g : ℕ → EReal) (hW : ∀ c < t, ∀ i : Fin 256, W c (ix2 i j) = g (256 * c + i.val))
    (hD : ∀ i : Fin 256, D (ix2 i j) = g (256 * t + i.val)) :
    chain addf (fun c => pv (colsOf vt (256 * c)) (W c)) (pv (colsOf vt (256 * t)) D) t (ix2 d j)
      = ∑ k ∈ range (256 * t + 256), vAt vt d k * g k := by
  rw [chain_map addf (· + ·) (fun x : FVec Ideal S128x256 .f32 => x (ix2 d j)) (fun _ _ => rfl), chain_add, Finset.sum_range_add, ← sum_chunks]
  congr 1
  · refine Finset.sum_congr rfl fun c hc => ?_
    rw [pv_apply, Finset.sum_range]
    refine Finset.sum_congr rfl fun i _ => ?_
    rw [colsOf_apply, hW c (mem_range.mp hc)]
    rfl
  · rw [pv_apply, Finset.sum_range]
    refine Finset.sum_congr rfl fun i _ => ?_
    rw [colsOf_apply, hD]
    rfl

end Cert.Attn

end
-- ==== Proof.Math.lean ====
/- One query's softmax: the kernel's powers of two with the shift against the reference's exponentials, on the extended reals. -/
module

public import Idealize.ShloMosaic.PureOps.Ideal

@[expose] public section

noncomputable section

namespace Cert.Attn

open Idealize.ShloMosaic Finset

/-- `1 / log 2`. -/
def log2e : ℝ := (Real.log 2)⁻¹

theorem log2e_pos : 0 < log2e := inv_pos.mpr (Real.log_pos (by norm_num))

/-- Scaling by `1 / log 2` keeps and reflects the order. -/
theorem mul_log2e_le {x y : EReal} : x * (log2e : EReal) ≤ y * (log2e : EReal) ↔ x ≤ y := by
  have hp : (0 : EReal) < (log2e : EReal) := by exact_mod_cast log2e_pos
  refine ⟨fun h => ?_, fun h => mul_le_mul_of_nonneg_right h hp.le⟩
  by_contra hxy
  rw [not_le] at hxy
  have hc : ∀ z : EReal, z * (log2e : EReal) * ((log2e⁻¹ : ℝ) : EReal) = z := by
    intro z
    rw [mul_assoc, ← EReal.coe_mul, mul_inv_cancel₀ log2e_pos.ne', EReal.coe_one, mul_one]
  have h' := mul_le_mul_of_nonneg_right h
    (show (0 : EReal) ≤ ((log2e⁻¹ : ℝ) : EReal) by exact_mod_cast (inv_pos.mpr log2e_pos).le)
  rw [hc, hc] at h'
  exact absurd h' (not_le.mpr hxy)

/-- For a score `s` at most the maximum `m`: two to the scaled, shifted difference is 256 times the exponential of the difference. -/
theorem exp2_shift {s m : EReal} (h : s ≤ m) :
    Ideal.exp2 (s * (log2e : EReal) - (m * (log2e : EReal) - ((8 : ℝ) : EReal))) = ((256 : ℝ) : EReal) * Ideal.exp (s - m) := by
  have hp := log2e_pos
  induction m with
  | bot =>
    obtain rfl : s = ⊥ := le_bot_iff.mp h
    simp [EReal.bot_mul_coe_of_pos hp]
  | top =>
    have e : (⊤ : EReal) * (log2e : EReal) - ((8 : ℝ) : EReal) = ⊤ := by
      rw [EReal.top_mul_coe_of_pos hp]; rfl
    rw [e]
    have e2 : ∀ x : EReal, x - ⊤ = ⊥ := fun x => by rw [sub_eq_add_neg, EReal.neg_top, EReal.add_bot]
    simp [e2]
  | coe m =>
    induction s with
    | top => exact absurd h (not_le.mpr (EReal.coe_lt_top m))
    | bot =>
      have e : ∀ x : ℝ, (⊥ : EReal) - (x : EReal) = ⊥ := fun x => by rw [sub_eq_add_neg, EReal.bot_add]
      rw [EReal.bot_mul_coe_of_pos hp, ← EReal.coe_mul, ← EReal.coe_sub, e, e]
      simp
    | coe s =>
      rw [← EReal.coe_mul, ← EReal.coe_mul, ← EReal.coe_sub, ← EReal.coe_sub, ← EReal.coe_sub, Ideal.exp2_coe, Ideal.exp_coe,
        ← EReal.coe_mul, EReal.coe_eq_coe_iff]
      show (2 : ℝ) ^ (s * log2e - (m * log2e - 8)) = 256 * Real.exp (s - m)
      have e : s * log2e - (m * log2e - 8) = (s - m) * log2e + 8 := by ring
      rw [e, Real.rpow_add (by norm_num), Real.rpow_def_of_pos (by norm_num)]
      have hl : Real.log 2 * ((s - m) * log2e) = s - m := by
        have : Real.log 2 ≠ 0 := (Real.log_pos (by norm_num)).ne'
        unfold log2e; field_simp
      rw [hl]; norm_num; ring

/-- The exponential is nonnegative. -/
theorem exp_nonneg (x : EReal) : 0 ≤ Ideal.exp x := by
  induction x with
  | bot => simp
  | top => simp
  | coe x => rw [Ideal.exp_coe]; exact_mod_cast (Real.exp_pos x).le

/-- A nonnegative finite factor comes out of a sum of nonnegative terms. -/
theorem sum_mul_left (a : ℝ) (ha : 0 ≤ a) (s : Finset ℕ) (f : ℕ → EReal) (hf : ∀ k ∈ s, 0 ≤ f k) :
    ∑ k ∈ s, (a : EReal) * f k = (a : EReal) * ∑ k ∈ s, f k := by
  induction s using Finset.cons_induction with
  | empty => simp
  | cons b s hb ih =>
    rw [Finset.sum_cons, Finset.sum_cons, ih fun k hk => hf k (Finset.mem_cons_of_mem hk),
      EReal.left_distrib_of_nonneg (hf b (Finset.mem_cons_self b s))
        (Finset.sum_nonneg fun k hk => hf k (Finset.mem_cons_of_mem hk))]

/-- The clip to the fp8 range of the codes. -/
def clip (x : EReal) : EReal := min ((448 : ℝ) : EReal) (max ((-448 : ℝ) : EReal) x)

section Row

variable (N n : ℕ) (hn : n ≤ N) (S S' : ℕ → EReal) (m m' : EReal)
  (hS : ∀ k < n, S' k = S k * (log2e : EReal)) (hbot : ∀ k, n ≤ k → k < N → S k = ⊥)
  (hm : ∀ z, m ≤ z ↔ ∀ k < N, S k ≤ z) (hm' : ∀ z, m' ≤ z ↔ ∀ k < n, S' k ≤ z)

include hn hS hbot hm hm'

/-- The kernel's maximum over the keys it visits is the reference's over all keys, scaled. -/
theorem row_max : m' = m * (log2e : EReal) := by
  have hc : ∀ z : EReal, z * ((log2e⁻¹ : ℝ) : EReal) * (log2e : EReal) = z := by
    intro z
    rw [mul_assoc, ← EReal.coe_mul, inv_mul_cancel₀ log2e_pos.ne', EReal.coe_one, mul_one]
  apply le_antisymm
  · rw [hm']
    intro k hk
    rw [hS k hk]
    exact mul_log2e_le.mpr ((hm m).mp le_rfl k (hk.trans_le hn))
  · rw [← hc m', mul_log2e_le, hm]
    intro k hk
    rcases lt_or_ge k n with h | h
    · rw [← mul_log2e_le, hc, ← hS k h]
      exact (hm' m').mp le_rfl k h
    · rw [hbot k h hk]; exact bot_le

/-- At a key it visits the kernel's power is 256 times the reference's exponential. -/
theorem row_p (k : ℕ) (hk : k < n) :
    Ideal.exp2 (S' k - (m' - ((8 : ℝ) : EReal))) = ((256 : ℝ) : EReal) * Ideal.exp (S k - m) := by
  rw [row_max N n hn S S' m m' hS hbot hm hm', hS k hk]
  exact exp2_shift ((hm m).mp le_rfl k (hk.trans_le hn))

/-- At a key the kernel leaves out the reference's exponential is zero. -/
theorem row_p_out (k : ℕ) (hk : n ≤ k) (hkN : k < N) : Ideal.exp (S k - m) = 0 := by
  rw [hbot k hk hkN, sub_eq_add_neg, EReal.bot_add, Ideal.exp_bot]

/-- The kernel's sum of powers over the keys it visits, scaled back, is the reference's sum of exponentials over all keys. -/
theorem row_sum :
    (∑ k ∈ range n, Ideal.exp2 (S' k - (m' - ((8 : ℝ) : EReal)))) * (((1 / 256 : ℝ)) : EReal) = ∑ k ∈ range N, Ideal.exp (S k - m) := by
  have h1 : ∑ k ∈ range n, Ideal.exp2 (S' k - (m' - ((8 : ℝ) : EReal))) = ∑ k ∈ range n, ((256 : ℝ) : EReal) * Ideal.exp (S k - m) :=
    Finset.sum_congr rfl fun k hk => row_p N n hn S S' m m' hS hbot hm hm' k (mem_range.mp hk)
  rw [h1, sum_mul_left 256 (by norm_num) _ _ fun k _ => exp_nonneg _, mul_comm, ← mul_assoc, ← EReal.coe_mul]
  norm_num
  refine Finset.sum_subset (range_subset_range.mpr hn) fun k hk hk' => ?_
  exact row_p_out N n hn S S' m m' hS hbot hm hm' k (by simpa using hk') (mem_range.mp hk)

/-- The kernel's sum of values times codes over the keys it visits (the rest of its last chunk zero) is the reference's over all keys. -/
theorem row_acc (n' : ℕ) (h1 : n ≤ n') (v c : ℕ → EReal)
    (hc : ∀ k < n, c k = clip (Ideal.exp2 (S' k - (m' - ((8 : ℝ) : EReal))))) (hz : ∀ k, n ≤ k → k < n' → c k = 0) :
    ∑ k ∈ range n', v k * c k = ∑ k ∈ range N, clip (Ideal.exp (S k - m) * ((256 : ℝ) : EReal)) * v k := by
  trans ∑ k ∈ range n, v k * c k
  · symm
    refine Finset.sum_subset (range_subset_range.mpr h1) fun k hk hk' => ?_
    rw [hz k (by simpa using hk') (mem_range.mp hk), mul_zero]
  trans ∑ k ∈ range n, clip (Ideal.exp (S k - m) * ((256 : ℝ) : EReal)) * v k
  · refine Finset.sum_congr rfl fun k hk => ?_
    rw [hc k (mem_range.mp hk), row_p N n hn S S' m m' hS hbot hm hm' k (mem_range.mp hk), mul_comm (v k), mul_comm _ (Ideal.exp _)]
  · refine Finset.sum_subset (range_subset_range.mpr hn) fun k hk hk' => ?_
    rw [row_p_out N n hn S S' m m' hS hbot hm hm' k (by simpa using hk') (mem_range.mp hk), zero_mul]
    have : clip 0 = 0 := by
      unfold clip
      rw [max_eq_right (by exact_mod_cast (by norm_num : (-448 : ℝ) ≤ 0)), min_eq_right (by exact_mod_cast (by norm_num : (0 : ℝ) ≤ 448))]
    rw [this, zero_mul]

end Row

end Cert.Attn

end
-- ==== Proof.Entries.lean ====
/- What a tile stores, entry by entry: the attention of one query over the keys up to it. -/
module

public import proofs.«01_k».proof.Proof.Fold
public import proofs.«01_k».proof.Proof.Math

@[expose] public section

set_option maxRecDepth 16384

noncomputable section

namespace Cert.Attn

open Idealize.ShloMosaic Idealize.ShloMosaic.TcCoe Cert.KernelIdeal Cert.KernelIdeal.Gen Finset

/-- The attention of one query: with scores `s` and values `v` over 2048 keys and output scale `w`, the sum of the values
    times the clipped, 256-fold exponentials of the scores less their maximum, scaled and divided by the sum of the exponentials. -/
def attnRow (s v : ℕ → EReal) (w : EReal) : EReal :=
  (∑ k ∈ range 2048, clip (Ideal.exp (s k - Finset.univ.fold max ⊥ fun x : Fin 2048 => s x.val) * ((256 : ℝ) : EReal)) * v k) * w
    * Ideal.div 1 (∑ k ∈ range 2048, Ideal.exp (s k - Finset.univ.fold max ⊥ fun x : Fin 2048 => s x.val))

/-- The product of key `b` with query `a`. -/
def dotAt (q k : Vec Ideal S1x2048x128 .fp8e4m3) (a b : ℕ) : EReal :=
  ∑ x : Fin 128, k (ix3 0 ⟨b % 2048, Nat.mod_lt _ (by decide)⟩ x) * q (ix3 0 ⟨a % 2048, Nat.mod_lt _ (by decide)⟩ x)

/-- The masked score of key `b` for query `a`, scaled by `f`. -/
def scoreAt (q k : Vec Ideal S1x2048x128 .fp8e4m3) (f : EReal) (a b : ℕ) : EReal := if b ≤ a then dotAt q k a b * f else ⊥

theorem scores_apply (q k : Vec Ideal S1x256x128 .fp8e4m3) (i j : Fin 256) :
    scores q k (ix2 i j) = ∑ x : Fin 128, k (ix3 0 i x) * q (ix3 0 j x) := by
  pointwise [scores]

section Tile

variable (cf osc : FVec Ideal S1x128 .f32) (q k : Vec Ideal S1x2048x128 .fp8e4m3) (vt : Vec Ideal S128x2048 .fp8e4m3) (t : ℕ)
  (f w : EReal) (hcf : ∀ b : Fin 128, cf (ix2 0 b) = f) (hosc : ∀ b : Fin 128, osc (ix2 0 b) = w)

theorem sc_apply (c : ℕ) (i j : Fin 256) : sc q k t c (ix2 i j) = dotAt q k (256 * t + j.val) (256 * c + i.val) := by
  rw [sc, scores_apply]
  exact Finset.sum_congr rfl fun x _ => by rw [rowsOf_apply, rowsOf_apply]

/-- The comparison the mask is made of. -/
theorem tri_eq (a b : ℕ) (ha : a < 128) (hb : b < 128) (x y : EReal) :
    Scalar.select (IntOp.cmpi CmpIPredicate.sle (BitVec.ofNat 32 a) (BitVec.ofNat 32 b)) x y = if a ≤ b then x else y := by
  have e : ∀ n < 128, (BitVec.ofNat 32 n).toInt = (n : ℤ) := by
    intro n hn
    rw [BitVec.toInt_eq_toNat_cond, BitVec.toNat_ofNat, Nat.mod_eq_of_lt (by omega)]
    rw [if_pos (by omega)]
  by_cases h : a ≤ b <;> simp [Scalar.select, IntOp.cmpi, BitVec.sle, e a ha, e b hb, h]

include hcf

theorem sFull0_apply (c : ℕ) (hc : c < t) (i : Fin 256) (b : Fin 128) :
    sFull0 cf (sc q k t c) (ix2 i b) = scoreAt q k f (256 * t + b.val) (256 * c + i.val) := by
  pointwise [sFull0]
  rw [sc_apply, hcf, scoreAt, if_pos (by omega)]

theorem sFull1_apply (c : ℕ) (i : Fin 256) (b : Fin 128) (h : 256 * c + i.val ≤ 256 * t + 128 + b.val) :
    sFull1 cf (sc q k t c) (ix2 i b) = scoreAt q k f (256 * t + 128 + b.val) (256 * c + i.val) := by
  pointwise [sFull1]
  rw [sc_apply, hcf, scoreAt, if_pos h, Nat.add_assoc]

theorem sDiag0_apply (i b : Fin 128) :
    sDiag0 cf (sc q k t t) (ix2 i b) = scoreAt q k f (256 * t + b.val) (256 * t + i.val) := by
  pointwise [sDiag0, masked, k0_pay8]
  rw [tri_eq _ _ i.isLt b.isLt, sc_apply, hcf, scoreAt, bits_neg_inf]
  simp only [Nat.add_le_add_iff_left]

theorem sDiag1_apply (i : Fin 256) (b : Fin 128) :
    sDiag1 cf (sc q k t t) (ix2 i b) = scoreAt q k f (256 * t + 128 + b.val) (256 * t + i.val) := by
  have e : sDiag1 cf (sc q k t t) (ix2 i b) = if h : i.val < 128 then sc q k t t (ix2 i ⟨128 + b.val, by omega⟩) * f
      else Scalar.select (IntOp.cmpi CmpIPredicate.sle (BitVec.ofNat 32 (i.val - 128)) (BitVec.ofNat 32 b.val))
        (sc q k t t (ix2 ⟨128 + (i.val - 128), by omega⟩ ⟨128 + b.val, by omega⟩) * f) (Ideal.ofBits FTy.f32 4286578688#32) := by
    rw [← hcf b]
    pointwise [sDiag1, stack, sFull1, masked, k0_pay8]
  rw [e, scoreAt, Nat.add_assoc]
  by_cases h : i.val < 128
  · rw [dif_pos h, sc_apply, if_pos (by omega)]
  · rw [dif_neg h, tri_eq _ _ (by omega) b.isLt, sc_apply, bits_neg_inf]
    have e : 128 + (i.val - 128) = i.val := by omega
    simp only [e]
    exact if_congr (by omega) rfl rfl

/-- The first half's maximum. -/
theorem max0_le (b : Fin 128) (z : EReal) :
    top (chain maximumf (fun c => maxFull (sFull0 cf (sc q k t c))) (maxHalf (sDiag0 cf (sc q k t t))) t) b ≤ z
      ↔ ∀ x < 256 * t + 128, scoreAt q k f (256 * t + b.val) x ≤ z :=
  top_half t b _ _ (fun c hc i => sFull0_apply cf q k t f hcf c hc i b) _ (fun i => sDiag0_apply cf q k t f hcf i b) z

/-- The second half's maximum. -/
theorem max1_le (b : Fin 128) (z : EReal) :
    top (chain maximumf (fun c => maxFull (sFull1 cf (sc q k t c))) (maxFull (sDiag1 cf (sc q k t t))) t) b ≤ z
      ↔ ∀ x < 256 * t + 256, scoreAt q k f (256 * t + 128 + b.val) x ≤ z :=
  top_full t b _ _ (fun c hc i => sFull1_apply cf q k t f hcf c i b (by omega)) _ (fun i => sDiag1_apply cf q k t f hcf i b) z

end Tile

theorem pFull_apply (s : FVec Ideal S256x128 .f32) (sh : FVec Ideal S1x128 .f32) (i : Fin 256) (b : Fin 128) :
    pFull s sh (ix2 i b) = Ideal.exp2 (s (ix2 i b) - sh (ix2 0 b)) := by
  pointwise [pFull]
  rfl

theorem pHalf_apply (s : FVec Ideal S128x128 .f32) (sh : FVec Ideal S1x128 .f32) (i b : Fin 128) :
    pHalf s sh (ix2 i b) = Ideal.exp2 (s (ix2 i b) - sh (ix2 0 b)) := by
  pointwise [pHalf]
  rfl

theorem codeFull_apply (p : FVec Ideal S256x128 .f32) (i : Fin 256) (b : Fin 128) : codeFull p (ix2 i b) = clip (p (ix2 i b)) := by
  pointwise [codeFull]
  rw [bits_448, bits_neg_448]
  rfl

theorem codeHalf_apply (p : FVec Ideal S128x128 .f32) (i b : Fin 128) : codeHalf p (ix2 i b) = clip (p (ix2 i b)) := by
  pointwise [codeHalf]
  rw [bits_448, bits_neg_448]
  rfl

theorem zeroHalf_apply (i b : Fin 128) : zeroHalf (ix2 i b) = 0 := by
  pointwise [zeroHalf]
  exact bits_fp8_zero

theorem besides_left (u v : FVec Ideal S256x128 .fp8e4m3) (i : Fin 256) (b : Fin 128) :
    besides u v (ix2 i ⟨b.val, by omega⟩) = u (ix2 i b) := by
  unfold besides
  refine (dif_pos (show b.val < 128 from b.isLt)).trans ?_
  congr 1
  funext k
  apply Fin.ext
  match k with
  | ⟨0, _⟩ => show i.val % 256 = i.val; omega
  | ⟨1, _⟩ => show b.val % 128 = b.val; omega

theorem besides_right (u v : FVec Ideal S256x128 .fp8e4m3) (i : Fin 256) (b : Fin 128) :
    besides u v (ix2 i ⟨128 + b.val, by omega⟩) = v (ix2 i b) := by
  unfold besides
  refine (dif_neg (show ¬128 + b.val < 128 by omega)).trans ?_
  congr 1
  funext k
  apply Fin.ext
  match k with
  | ⟨0, _⟩ => show (i.val - 0) % 256 = i.val; omega
  | ⟨1, _⟩ => show (128 + b.val - 128) % 128 = b.val; omega

theorem above_apply (u v : FVec Ideal S128x128 .fp8e4m3) (i : Fin 256) (b : Fin 128) :
    above u v (ix2 i b) = if h : i.val < 128 then u (ix2 ⟨i.val, h⟩ b) else v (ix2 ⟨i.val - 128, by omega⟩ b) := by
  unfold above
  by_cases h : i.val < 128
  · rw [dif_pos h]
    refine (dif_pos (show i.val < 128 from h)).trans ?_
    congr 1
    funext k
    apply Fin.ext
    match k with
    | ⟨0, _⟩ => show i.val % 128 = i.val; omega
    | ⟨1, _⟩ => show b.val % 128 = b.val; omega
  · rw [dif_neg h]
    refine (dif_neg (show ¬i.val < 128 from h)).trans ?_
    congr 1
    funext k
    apply Fin.ext
    match k with
    | ⟨0, _⟩ => show (i.val - 128) % 128 = i.val - 128; omega
    | ⟨1, _⟩ => show (b.val - 0) % 128 = b.val; omega

theorem finish_apply (a : FVec Ideal S128x128 .f32) (osc : FVec Ideal S1x128 .f32) (l : FVec Ideal S8x128 .f32) (r d : Fin 128)
    (w : EReal) (hosc : ∀ b : Fin 128, osc (ix2 0 b) = w) :
    finish a osc l (ix3 0 r d) = a (ix2 d r) * w * Ideal.div 1 ((∑ s : Fin 8, l (ix2 s r)) * ((1 / 256 : ℝ) : EReal)) := by
  rw [← bits_256th, ← hosc r]
  pointwise [finish]

section Out

variable (cf osc : FVec Ideal S1x128 .f32) (q k : Vec Ideal S1x2048x128 .fp8e4m3) (vt : Vec Ideal S128x2048 .fp8e4m3) (t : ℕ) (ht : t < 8)
  (f w : EReal) (hcf : ∀ b : Fin 128, cf (ix2 0 b) = f * (log2e : EReal)) (hosc : ∀ b : Fin 128, osc (ix2 0 b) = w)

/-- From a query's maximum, sum and codes over the keys a tile visits to its attention over all keys. -/
theorem row_of_visited (n n' a : ℕ) (ha : a < n) (hn : n ≤ n') (hN : n ≤ 2048) (v c : ℕ → EReal) (m' l : EReal)
    (hm' : ∀ z, m' ≤ z ↔ ∀ x < n, scoreAt q k (f * (log2e : EReal)) a x ≤ z)
    (hl : l = ∑ x ∈ range n, Ideal.exp2 (scoreAt q k (f * (log2e : EReal)) a x - (m' - ((8 : ℝ) : EReal))))
    (hc : ∀ x < n, c x = clip (Ideal.exp2 (scoreAt q k (f * (log2e : EReal)) a x - (m' - ((8 : ℝ) : EReal)))))
    (hz : ∀ x, n ≤ x → x < n' → c x = 0) :
    (∑ x ∈ range n', v x * c x) * w * Ideal.div 1 (l * ((1 / 256 : ℝ) : EReal)) = attnRow (scoreAt q k f a) v w := by
  have hS : ∀ x < n, scoreAt q k (f * (log2e : EReal)) a x = scoreAt q k f a x * (log2e : EReal) := by
    intro x _
    unfold scoreAt
    split
    · rw [mul_assoc]
    · rw [EReal.bot_mul_coe_of_pos log2e_pos]
  have hbot : ∀ x, n ≤ x → x < 2048 → scoreAt q k f a x = ⊥ := fun x hx _ => if_neg (by omega)
  have hm : ∀ z, (Finset.univ.fold max ⊥ fun x : Fin 2048 => scoreAt q k f a x.val) ≤ z ↔ ∀ x < 2048, scoreAt q k f a x ≤ z := by
    intro z
    rw [Finset.fold_max_le]
    exact ⟨fun h x hx => h.2 ⟨x, hx⟩ (Finset.mem_univ _), fun h => ⟨bot_le, fun x _ => h x.val x.isLt⟩⟩
  rw [attnRow, row_acc 2048 n hN _ _ _ m' hS hbot hm hm' n' hn v c hc hz, hl, row_sum 2048 n hN _ _ _ m' hS hbot hm hm']

include ht hcf hosc

/-- What a tile stores for its first 128 queries: their attention. -/
theorem out0_apply (r d : Fin 128) :
    out0 cf osc q k vt t (ix3 0 r d) = attnRow (scoreAt q k f (256 * t + r.val)) (vAt vt d) w := by
  obtain ⟨M, hM, hsh⟩ : ∃ M, (∀ z, M ≤ z ↔ ∀ x < 256 * t + 128, scoreAt q k (f * (log2e : EReal)) (256 * t + r.val) x ≤ z)
      ∧ shift0 cf q k t (ix2 0 r) = M - ((8 : ℝ) : EReal) := ⟨_, max0_le cf q k t _ hcf r, shift_apply _ _⟩
  have hp : ∀ c < t, ∀ i : Fin 256, p0 cf q k t c (ix2 i r)
      = Ideal.exp2 (scoreAt q k (f * (log2e : EReal)) (256 * t + r.val) (256 * c + i.val) - (M - ((8 : ℝ) : EReal))) := by
    intro c hc i
    rw [p0, pFull_apply, hsh, sFull0_apply cf q k t _ hcf c hc]
  have hd : ∀ i : Fin 128, pd0 cf q k t (ix2 i r)
      = Ideal.exp2 (scoreAt q k (f * (log2e : EReal)) (256 * t + r.val) (256 * t + i.val) - (M - ((8 : ℝ) : EReal))) := by
    intro i
    rw [pd0, pHalf_apply, hsh, sDiag0_apply cf q k t _ hcf]
  rw [out0, finish_apply _ _ _ _ _ w hosc, sum_half t r (fun c => p0 cf q k t c) (fun x => Ideal.exp2 (scoreAt q k (f * (log2e : EReal)) (256 * t + r.val) x - (M - ((8 : ℝ) : EReal)))) hp _ hd]
  refine Eq.trans ?_ (row_of_visited q k f w (256 * t + 128) (256 * t + 256) (256 * t + r.val) (by omega) (by omega) (by omega) (vAt vt d)
    (fun x => if x < 256 * t + 128 then clip (Ideal.exp2 (scoreAt q k (f * (log2e : EReal)) (256 * t + r.val) x - (M - ((8 : ℝ) : EReal)))) else 0)
    M _ hM rfl (fun x hx => if_pos hx) (fun x hx _ => if_neg (by omega)))
  congr 2
  have e : extractStridedSlice S128x128 ![0, 0] (acc cf q k vt t) slices_S128x256_o0_0_S128x128 (ix2 d r)
      = acc cf q k vt t (ix2 d ⟨r.val, by omega⟩) := by pointwise
  rw [e, acc]
  refine acc_full t vt _ _ d _ _ (fun c hc i => ?_) (fun i => ?_)
  · rw [besides_left, codeFull_apply, hp c hc, if_pos (by omega)]
  · rw [besides_left, above_apply]
    by_cases h : i.val < 128
    · rw [dif_pos h, codeHalf_apply, hd, if_pos (by omega)]
    · rw [dif_neg h, zeroHalf_apply, if_neg (by omega)]

/-- What a tile stores for its last 128 queries: their attention. -/
theorem out1_apply (r d : Fin 128) :
    out1 cf osc q k vt t (ix3 0 r d) = attnRow (scoreAt q k f (256 * t + 128 + r.val)) (vAt vt d) w := by
  obtain ⟨M, hM, hsh⟩ : ∃ M, (∀ z, M ≤ z ↔ ∀ x < 256 * t + 256, scoreAt q k (f * (log2e : EReal)) (256 * t + 128 + r.val) x ≤ z)
      ∧ shift1 cf q k t (ix2 0 r) = M - ((8 : ℝ) : EReal) := ⟨_, max1_le cf q k t _ hcf r, shift_apply _ _⟩
  have hp : ∀ c < t, ∀ i : Fin 256, p1 cf q k t c (ix2 i r)
      = Ideal.exp2 (scoreAt q k (f * (log2e : EReal)) (256 * t + 128 + r.val) (256 * c + i.val) - (M - ((8 : ℝ) : EReal))) := by
    intro c hc i
    rw [p1, pFull_apply, hsh, sFull1_apply cf q k t _ hcf c _ _ (by omega)]
  have hd : ∀ i : Fin 256, pd1 cf q k t (ix2 i r)
      = Ideal.exp2 (scoreAt q k (f * (log2e : EReal)) (256 * t + 128 + r.val) (256 * t + i.val) - (M - ((8 : ℝ) : EReal))) := by
    intro i
    rw [pd1, pFull_apply, hsh, sDiag1_apply cf q k t _ hcf]
  rw [out1, finish_apply _ _ _ _ _ w hosc, sum_full t r (fun c => p1 cf q k t c) (fun x => Ideal.exp2 (scoreAt q k (f * (log2e : EReal)) (256 * t + 128 + r.val) x - (M - ((8 : ℝ) : EReal)))) hp _ hd]
  refine Eq.trans ?_ (row_of_visited q k f w (256 * t + 256) (256 * t + 256) (256 * t + 128 + r.val) (by omega) le_rfl (by omega) (vAt vt d)
    (fun x => clip (Ideal.exp2 (scoreAt q k (f * (log2e : EReal)) (256 * t + 128 + r.val) x - (M - ((8 : ℝ) : EReal)))))
    M _ hM rfl (fun x hx => rfl) (fun x hx hx' => absurd hx' (by omega)))
  congr 2
  have e : extractStridedSlice S128x128 ![0, 128] (acc cf q k vt t) slices_S128x256_o0_128_S128x128 (ix2 d r)
      = acc cf q k vt t (ix2 d ⟨128 + r.val, by omega⟩) := by pointwise
  rw [e, acc]
  refine acc_full t vt _ _ d _ _ (fun c hc i => ?_) (fun i => ?_)
  · rw [besides_right, codeFull_apply, hp c hc]
  · rw [besides_right, codeFull_apply, hd]

omit ht in
/-- What the body stores at rows `128 n …`: the attention of the queries there. -/
theorem outAt_apply (n : ℕ) (hn : n < 16) (r d : Fin 128) :
    outAt cf osc q k vt n (ix3 0 r d) = attnRow (scoreAt q k f (128 * n + r.val)) (vAt vt d) w := by
  unfold outAt
  split
  · rw [out0_apply cf osc q k vt (n / 2) (by omega) f w hcf hosc, show 256 * (n / 2) = 128 * n by omega]
  · rw [out1_apply cf osc q k vt (n / 2) (by omega) f w hcf hosc, show 256 * (n / 2) + 128 = 128 * n by omega]

end Out

end Cert.Attn

end
-- ==== Proof.Blocks.lean ====
/- What the kernel's output block holds after a grid point, and what the transposed values hold that its heads share. -/
module

public import proofs.«01_k».proof.Proof.Pieces
public import proofs.«01_k».proof.Proof.Entries
public import Idealize.ShloMosaic.Lib.Pipeline.ValueKit.Held

@[expose] public section

set_option maxRecDepth 16384

noncomputable section

namespace Cert.Attn

open Idealize.ShloMosaic Idealize.ShloMosaic.TcCoe Cert.KernelIdeal Cert.KernelIdeal.Gen

/-- The sixteen stores read back at row `r`: the attention of query `r`. -/
theorem canon_stores (cf osc : FVec Ideal S1x128 .f32) (q k : Vec Ideal S1x2048x128 .fp8e4m3) (vt : Vec Ideal S128x2048 .fp8e4m3)
    (f w : EReal) (hcf : ∀ b : Fin 128, cf (ix2 0 b) = f * (log2e : EReal)) (hosc : ∀ b : Fin 128, osc (ix2 0 b) = w) (r : Fin 2048) (d : Fin 128) :
    View.canon (stores cf osc q k vt) (ix3 0 r d : S1x2048x128.Idx) = attnRow (scoreAt q k f r.val) (vAt vt d) w := by
  unfold stores
  refine View.canon_ofFn_unit_eq_of_forall (Val := Elt Ideal) (S := S1x2048x128) (e := .bf16) (fun n : Fin 16 => ![0, 128 * (15 - n.val), 0]) ![1, 128, 128]
    (fun n => inb_out (15 - n.val) (by omega)) (fun n => outAt cf osc q k vt (15 - n.val)) _ _ ?_ ?_
  · refine ⟨⟨15 - r.val / 128, by omega⟩, fun a => ?_⟩
    match a with
    | ⟨0, _⟩ => exact ⟨Nat.zero_le _, Nat.zero_lt_one⟩
    | ⟨1, _⟩ =>
      show 128 * (15 - (15 - r.val / 128)) ≤ r.val ∧ r.val < 128 * (15 - (15 - r.val / 128)) + 128
      omega
    | ⟨2, _⟩ =>
      show 0 ≤ d.val ∧ d.val < 0 + 128
      omega
  · intro n y hy
    have h1 : r.val = 128 * (15 - n.val) + (y 1).val := hy 1
    have h2 : d.val = 0 + (y 2).val := hy 2
    have hy1 : (y 1).val < 128 := (y 1).isLt
    have hy0 : (y 0).val < 1 := (y 0).isLt
    have e : y = (ix3 0 ⟨(y 1).val, hy1⟩ d : S1x128x128.Idx) := by
      funext a
      apply Fin.ext
      match a with
      | ⟨0, _⟩ => show (y 0).val = 0; omega
      | ⟨1, _⟩ => rfl
      | ⟨2, _⟩ => show (y 2).val = d.val; omega
    rw [e, outAt_apply cf osc q k vt f w hcf hosc _ (by omega), h1]

variable (m : (ℓ : Loc nD τ sig) → Buf (Elt Ideal) ℓ) (c : Dev nD)

/-- The transposed values after a point: those of the value block at the first point of the point's group of four heads. -/
theorem held (t : Fin cfg0.N) :
    (outsAt0 m c t.val t.isLt).2 = k0_pay2 (F := Ideal) (iblk m c 5 ⟨4 * (t.val / 4), Pipeline.run_start_lt t⟩) := by
  refine Pipeline.eq_of_write_hold (fun n h => (outsAt0 m c n h).2) 4 (fun t => k0_pay2 (F := Ideal) (iblk m c 5 t)) (fun t h => ?_) (fun t h => ?_) t
  · show (outsAt0 m c t.val t.isLt).2 = _
    rw [outsAt0_A m c t h]
    frame_out
    rfl
  · show (outsAt0 m c t.val t.isLt).2 = _
    rw [outsAt0_B m c t h]
    rfl

/-- The output block after a point: the sixteen stores, over the transposed values as the point leaves them. -/
theorem block_eq (t : Fin cfg0.N) :
    (outsAt0 m c t.val t.isLt).1 = View.canon (stores (coef (qsAt (grid0.coords t) (iblk m c 0 t)) (ksAt (grid0.coords t) (iblk m c 1 t)))
      (oscale (ksAt (grid0.coords t) (iblk m c 2 t))) (iblk m c 3 t) (iblk m c 4 t) (outsAt0 m c t.val t.isLt).2) := by
  by_cases h : t.val % 4 = 0
  · rw [held, show (⟨4 * (t.val / 4), Pipeline.run_start_lt t⟩ : Fin cfg0.N) = t from Fin.ext (by show 4 * (t.val / 4) = t.val; omega), outsAt0_A m c t h]
    dsimp only
    unfold out0_A_6
    rw [View.read_writes_junk_eq_canon, stores_A]
  · rw [outsAt0_B m c t h]
    dsimp only
    unfold out0_B_6 sout0_B_0
    rw [View.read_writes_junk_eq_canon, stores_B]

end Cert.Attn

end
-- ==== Proof.Spec.lean ====
/- The result as a function of the argument arrays: grouped-query attention, head by head. -/
module

public import proofs.«01_k».proof.Proof.Entries

@[expose] public section

noncomputable section

namespace Cert.Attn

open Idealize.ShloMosaic Idealize.ShloMosaic.TcCoe Cert.KernelIdeal Cert.KernelIdeal.Gen

/-- Query head `h` of batch `b`: lanes `128 h …` of the queries, as a block. -/
def headQ (x : Vec Ideal S8x2048x4096 .fp8e4m3) (b : Fin 8) (h : Fin 32) : Vec Ideal S1x2048x128 .fp8e4m3 :=
  fun j => x (ix3 b ⟨(j 1).val, (j 1).isLt⟩ ⟨128 * h.val + (j 2).val, by have : (j 2).val < 128 := (j 2).isLt; omega⟩)

/-- Key or value head `g` of batch `b`, as a block. -/
def headK (x : Vec Ideal S8x2048x1024 .fp8e4m3) (b : Fin 8) (g : Fin 8) : Vec Ideal S1x2048x128 .fp8e4m3 :=
  fun j => x (ix3 b ⟨(j 1).val, (j 1).isLt⟩ ⟨128 * g.val + (j 2).val, by have : (j 2).val < 128 := (j 2).isLt; omega⟩)

/-- Column `d` of a head's values, by position. -/
def column (v : Vec Ideal S1x2048x128 .fp8e4m3) (d : Fin 128) (k : ℕ) : EReal := v (ix3 0 ⟨k % 2048, Nat.mod_lt _ (by decide)⟩ d)

/-- The scale of the scores of query head `h`, whose keys are those of head `h / 4`. -/
def scoreScale (qs : Vec Ideal S32 .f32) (ks : Vec Ideal S8 .f32) (h : Fin 32) : EReal :=
  qs (ix1 h) * ks (ix1 (⟨h.val / 4, by omega⟩ : Fin 8)) * Ideal.ofBits .f32 0x3DB504F3#32

/-- The result for query `r` of query head `h` of batch `b`, at lane `d` of the head. -/
def attnHead (x : Vec Ideal S8x2048x4096 .fp8e4m3) (qs : Vec Ideal S32 .f32) (k : Vec Ideal S8x2048x1024 .fp8e4m3) (ks : Vec Ideal S8 .f32)
    (v : Vec Ideal S8x2048x1024 .fp8e4m3) (vs : Vec Ideal S8 .f32) (b : Fin 8) (r : ℕ) (h : Fin 32) (d : Fin 128) : EReal :=
  attnRow (scoreAt (headQ x b h) (headK k b ⟨h.val / 4, by omega⟩) (scoreScale qs ks h) r) (column (headK v b ⟨h.val / 4, by omega⟩) d)
    (vs (ix1 (⟨h.val / 4, by omega⟩ : Fin 8)) * Ideal.ofBits .f32 0x3B800000#32)

/-- The result array: heads side by side. -/
def attn (x : Vec Ideal S8x2048x4096 .fp8e4m3) (qs : Vec Ideal S32 .f32) (k : Vec Ideal S8x2048x1024 .fp8e4m3) (ks : Vec Ideal S8 .f32)
    (v : Vec Ideal S8x2048x1024 .fp8e4m3) (vs : Vec Ideal S8 .f32) (b : Fin 8) (r : Fin 2048) (l : Fin 4096) : EReal :=
  attnHead x qs k ks v vs b r.val ⟨l.val / 128, by omega⟩ ⟨l.val % 128, Nat.mod_lt _ (by decide)⟩

end Cert.Attn

end
-- ==== Proof.Arrays.lean ====
/- What the kernel's result array holds. -/
module

public import proofs.«01_k».proof.Proof.Blocks
public import proofs.«01_k».proof.Proof.Spec
public import proofs.«01_k».proof.Proof.Gen.KernelIdeal.Value

@[expose] public section

set_option maxRecDepth 16384

noncomputable section

namespace Cert.Attn

open Idealize.ShloMosaic Idealize.ShloMosaic.TcCoe Cert.KernelIdeal Cert.KernelIdeal.Gen

/-- Where the blocks and the scales of a grid point lie: point `t` is head `t % 32` of batch `t / 32`. -/
theorem places : ∀ t : Fin cfg0.N, win0_3.index t = ![t.val / 32, 0, t.val % 32] ∧ win0_4.index t = ![t.val / 32, 0, t.val % 32 / 4]
    ∧ win0_5.index t = ![t.val / 32, 0, t.val % 32 / 4] :=
  (by decide +kernel : ∀ t : Fin grid0.N, _)

theorem scales : ∀ t : Fin cfg0.N, k0_off1 (grid0.coords t) 0 = t.val % 32 ∧ k0_off2 (grid0.coords t) 0 = t.val % 32 / 4 :=
  (by decide +kernel : ∀ t : Fin grid0.N, _)

theorem wholes : ∀ t : Fin cfg0.N, win0_0.index t 0 = 0 ∧ win0_1.index t 0 = 0 ∧ win0_2.index t 0 = 0 :=
  (by decide +kernel : ∀ t : Fin grid0.N, _)

theorem qsAt_eq (t : Fin cfg0.N) (x : Vec Ideal S32 .f32) : qsAt (grid0.coords t) x = x (ix1 ⟨t.val % 32, Nat.mod_lt _ (by decide)⟩) := by
  refine View.ld_unit_apply_of x _ _ _ _ _ fun a => ?_
  match a with
  | ⟨0, _⟩ => exact (scales t).1.symm

theorem ksAt_eq (t : Fin cfg0.N) (x : Vec Ideal S8 .f32) : ksAt (grid0.coords t) x = x (ix1 (⟨t.val % 32 / 4, by omega⟩ : Fin 8)) := by
  refine View.ld_unit_apply_of x _ _ _ _ _ fun a => ?_
  match a with
  | ⟨0, _⟩ => exact (scales t).2.symm

/-- The factor of the scores. -/
theorem coef_apply (a b : EReal) (l : Fin 128) :
    coef a b (ix2 0 l) = a * b * Ideal.ofBits .f32 0x3DB504F3#32 * (log2e : EReal) := by
  have h : Named.named (F := Ideal) Cert.KernelIdeal.κ "log2e" (φ := .f32) 0x3FB8AA3B#32 = (log2e : EReal) :=
    IdealRules.named_const.ideal_named_scalar _ _ _ _ rfl
  rw [← h]
  pointwise [coef, k0_pay6, k0_pay5, k0_pay4, k0_pay3]

/-- The factor of the output. -/
theorem oscale_apply (a : EReal) (l : Fin 128) : oscale a (ix2 0 l) = a * Ideal.ofBits .f32 0x3B800000#32 := by
  pointwise [oscale, k0_pay7, k0_pay3]

/-- The transposed values at an index. -/
theorem vAt_transposed (x : Vec Ideal S1x2048x128 .fp8e4m3) (d : Fin 128) : vAt (k0_pay2 (F := Ideal) x) d = column x d := by
  funext k
  unfold vAt column
  pointwise [k0_pay2]

variable (m : (ℓ : Loc nD τ sig) → Buf (Elt Ideal) ℓ) (c : Dev nD)

theorem iblk0_eq (t : Fin cfg0.N) : iblk m c 0 t = m ((c : Thread nD τ).loc main_arg1) := by
  funext j
  blk_ext [iblk, V, wholes t]

theorem iblk1_eq (t : Fin cfg0.N) : iblk m c 1 t = m ((c : Thread nD τ).loc main_arg3) := by
  funext j
  blk_ext [iblk, V, wholes t]

theorem iblk2_eq (t : Fin cfg0.N) : iblk m c 2 t = m ((c : Thread nD τ).loc main_arg5) := by
  funext j
  blk_ext [iblk, V, wholes t]

theorem point_lt (t : Fin cfg0.N) : t.val < 256 := lt_of_lt_of_eq t.isLt N_0

theorem iblk3_eq (t : Fin cfg0.N) : iblk m c 3 t = headQ (m ((c : Thread nD τ).loc main_arg0))
    ⟨t.val / 32, by have := point_lt t; omega⟩ ⟨t.val % 32, Nat.mod_lt _ (by decide)⟩ := by
  funext j
  unfold headQ
  blk_ext [iblk, V, places t]

theorem iblk4_eq (t : Fin cfg0.N) : iblk m c 4 t = headK (m ((c : Thread nD τ).loc main_arg2))
    ⟨t.val / 32, by have := point_lt t; omega⟩ ⟨t.val % 32 / 4, by omega⟩ := by
  funext j
  unfold headK
  blk_ext [iblk, V, places t]

theorem iblk5_eq (t : Fin cfg0.N) : iblk m c 5 t = headK (m ((c : Thread nD τ).loc main_arg4))
    ⟨t.val / 32, by have := point_lt t; omega⟩ ⟨t.val % 32 / 4, by omega⟩ := by
  funext j
  unfold headK
  blk_ext [iblk, V, places t]

/-- The value block at the first point of a point's group is the point's own. -/
theorem iblk5_first (t : Fin cfg0.N) : iblk m c 5 ⟨4 * (t.val / 4), Pipeline.run_start_lt t⟩ = iblk m c 5 t := by
  rw [iblk5_eq, iblk5_eq]
  have h1 : 4 * (t.val / 4) / 32 = t.val / 32 := by omega
  have h2 : 4 * (t.val / 4) % 32 / 4 = t.val % 32 / 4 := by omega
  simp only [h1, h2]

/-- The output block after a point: the attention of the point's head. -/
theorem block_apply (t : Fin cfg0.N) (r : Fin 2048) (d : Fin 128) :
    (outsAt0 m c t.val t.isLt).1 (ix3 0 r d) = attnHead (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      ⟨t.val / 32, by have := point_lt t; omega⟩ r.val ⟨t.val % 32, Nat.mod_lt _ (by decide)⟩ d := by
  rw [block_eq, qsAt_eq, ksAt_eq, ksAt_eq]
  refine (canon_stores _ _ _ _ _ _ _ (fun b => coef_apply _ _ b) (fun b => oscale_apply _ b) r d).trans ?_
  rw [held, vAt_transposed, iblk5_first, iblk0_eq, iblk1_eq, iblk2_eq, iblk3_eq, iblk4_eq, iblk5_eq]
  rfl

/-- The kernel's result array: the attention. -/
theorem kernel_eq (b : Fin 8) (r : Fin 2048) (l : Fin 4096) :
    Cert.KernelIdeal.Value.G6 (F := Ideal) m c (ix3 b r l) = attn (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) b r l := by
  have hp : Cert.KernelIdeal.Value.pt6Of (ix3 b r l) = 32 * b.val + l.val / 128 := by
    show 32 * (b.val / 1 - 0) + 32 * (r.val / 2048 - 0) + 1 * (l.val / 128 - 0) = _
    have := r.isLt
    omega
  have hl : 32 * b.val + l.val / 128 < cfg0.N := lt_of_lt_of_eq (by omega : 32 * b.val + l.val / 128 < 256) N_0.symm
  have hi : Cert.KernelIdeal.Value.loc6Of (ix3 b r l) = ix3 0 r ⟨l.val % 128, Nat.mod_lt _ (by decide)⟩ := by
    funext a
    apply Fin.ext
    match a with
    | ⟨0, _⟩ => show b.val % 1 = 0; omega
    | ⟨1, _⟩ => show r.val % 2048 = r.val; have := r.isLt; omega
    | ⟨2, _⟩ => rfl
  unfold Cert.KernelIdeal.Value.G6
  rw [dif_pos (by rw [hp]; exact hl), hi, Cert.KernelIdeal.Value.fold0_congr m c _ _ (32 * b.val + l.val / 128) (by omega) hp,
    ← Cert.KernelIdeal.Value.outsAt0_sweep m c _ hl]
  refine (block_apply m c ⟨32 * b.val + l.val / 128, hl⟩ r _).trans ?_
  unfold attn
  congr 1
  · exact Fin.ext (by show (32 * b.val + l.val / 128) / 32 = b.val; omega)
  · exact Fin.ext (by show (32 * b.val + l.val / 128) % 32 = l.val / 128; omega)

end Cert.Attn

end
-- ==== Proof.Reference.lean ====
/- What the reference's result array holds. -/
module

public import proofs.«01_k».proof.Proof.Spec
public import proofs.«01_k».proof.Proof.Gen.ReferenceIdeal.Value

@[expose] public section

set_option maxRecDepth 16384

noncomputable section

namespace Cert.Attn

open Idealize.ShloMosaic Idealize.ShloMosaic.TcCoe Finset Cert.ReferenceIdeal Cert.ReferenceIdeal.Gen

variable (x : Vec Ideal S8x2048x4096 .fp8e4m3) (qs : Vec Ideal S32 .f32) (k : Vec Ideal S8x2048x1024 .fp8e4m3) (ks : Vec Ideal S8 .f32)
  (v : Vec Ideal S8x2048x1024 .fp8e4m3) (vs : Vec Ideal S8 .f32)

/-- The mask's comparison of positions below 2048. -/
theorem le_eq (a b : ℕ) (ha : a < 2048) (hb : b < 2048) (x y : EReal) :
    Scalar.select (IntOp.cmpi CmpIPredicate.sle (BitVec.ofNat 32 a) (BitVec.ofNat 32 b)) x y = if a ≤ b then x else y := by
  have e : ∀ n < 2048, (BitVec.ofNat 32 n).toInt = (n : ℤ) := by
    intro n hn
    rw [BitVec.toInt_eq_toNat_cond, BitVec.toNat_ofNat, Nat.mod_eq_of_lt (by omega)]
    rw [if_pos (by omega)]
  by_cases h : a ≤ b <;> simp [Scalar.select, IntOp.cmpi, BitVec.sle, e a ha, e b hb, h]

/-- The query head that group `g` of heads and place `e` in it name. -/
def headOf (g : Fin 8) (e : Fin 4) : Fin 32 := ⟨g.val * 4 + e.val, by omega⟩

/-- The reference's masked scores. -/
def refScore (b g : Fin 8) (e : Fin 4) (r k' : Fin 2048) : EReal :=
  scoreAt (headQ x b (headOf g e)) (headK k b g) (scoreScale qs ks (headOf g e)) r.val k'.val

/-- A score as the reference's operations spell it. -/
theorem refScore_eq (b g : Fin 8) (e : Fin 4) (r k' : Fin 2048) :
    (if k'.val ≤ r.val then (∑ d : Fin 128, k (ix3 b k' ⟨g.val * 128 + d.val, by omega⟩) * x (ix3 b r ⟨g.val * 512 + e.val * 128 + d.val, by omega⟩))
        * (qs (ix1 ⟨g.val * 4 + e.val, by omega⟩) * ks (ix1 g) * Ideal.ofBits .f32 0x3DB504F3#32) else ⊥) = refScore x qs k ks b g e r k' := by
  unfold refScore scoreAt
  refine if_congr Iff.rfl ?_ rfl
  unfold dotAt scoreScale headQ headK headOf
  have h4 : (g.val * 4 + e.val) / 4 = g.val := by omega
  have hk : ∀ y : Fin 2048, y.val % 2048 = y.val := fun y => Nat.mod_eq_of_lt y.isLt
  refine congrArg₂ (· * ·) (Finset.sum_congr rfl fun d _ => congrArg₂ (· * ·) (congrArg k ?_) (congrArg x ?_)) ?_
  · funext a
    apply Fin.ext
    match a with
    | ⟨0, _⟩ => rfl
    | ⟨1, _⟩ => exact (hk k').symm
    | ⟨2, _⟩ => show g.val * 128 + d.val = 128 * g.val + d.val; omega
  · funext a
    apply Fin.ext
    match a with
    | ⟨0, _⟩ => rfl
    | ⟨1, _⟩ => exact (hk r).symm
    | ⟨2, _⟩ => show g.val * 512 + e.val * 128 + d.val = 128 * (g.val * 4 + e.val) + d.val; omega
  · simp only [h4]

/-- The reference's exponentials. -/
theorem pay2_apply (b g : Fin 8) (e : Fin 4) (r k' : Fin 2048) :
    k0_pay2 (F := Ideal) x k qs ks (ix5 b g e r k')
      = Ideal.exp (refScore x qs k ks b g e r k' - Finset.univ.fold max ⊥ fun y : Fin 2048 => refScore x qs k ks b g e r y) := by
  simp only [← refScore_eq]
  simp only [← le_eq _ _ (Fin.isLt _) (Fin.isLt _), ← bits_neg_inf]
  pointwise [k0_pay2]

/-- The reference's sums of exponentials. -/
theorem pay3_apply (b g : Fin 8) (e : Fin 4) (r : Fin 2048) :
    k0_pay3 (F := Ideal) x k qs ks (ix4 b g e r) = ∑ y : Fin 2048, k0_pay2 (F := Ideal) x k qs ks (ix5 b g e r y) := by
  pointwise [k0_pay3]

/-- An entry of a value head's column. -/
theorem column_eq (b g : Fin 8) (d : Fin 128) (y : Fin 2048) : column (headK v b g) d y.val = v (ix3 b y ⟨g.val * 128 + d.val, by omega⟩) := by
  unfold column headK
  refine congrArg v ?_
  funext a
  apply Fin.ext
  match a with
  | ⟨0, _⟩ => rfl
  | ⟨1, _⟩ => exact Nat.mod_eq_of_lt y.isLt
  | ⟨2, _⟩ => show 128 * g.val + d.val = g.val * 128 + d.val; omega

/-- The reference's sums of values times codes. -/
theorem pay4_apply (b g : Fin 8) (d : Fin 128) (e : Fin 4) (r : Fin 2048) :
    k0_pay4 (F := Ideal) x k v qs ks (ix5 b g d e r)
      = ∑ y : Fin 2048, column (headK v b g) d y.val * clip (k0_pay2 (F := Ideal) x k qs ks (ix5 b g e r y) * ((256 : ℝ) : EReal)) := by
  simp only [column_eq]
  unfold clip
  rw [← bits_256, ← bits_448, ← bits_neg_448]
  pointwise [k0_pay4]

/-- The reference's result array: the attention. -/
theorem reference_eq (b : Fin 8) (r : Fin 2048) (l : Fin 4096) :
    Cert.ReferenceIdeal.Value.G6 (F := Ideal) x qs k ks v vs (ix3 b r l) = attn x qs k ks v vs b r l := by
  have e1 : k0_pay1 (F := Ideal) (k0_pay3 x k qs ks) (k0_pay4 x k v qs ks) vs (ix3 b r l)
      = k0_pay4 (F := Ideal) x k v qs ks (ix5 b ⟨l.val / 512, by omega⟩ ⟨l.val % 128, by omega⟩ ⟨l.val / 128 % 4, by omega⟩ r)
        * (vs (ix1 ⟨l.val / 512, by omega⟩) * Ideal.ofBits .f32 0x3B800000#32)
        * Ideal.div 1 (k0_pay3 (F := Ideal) x k qs ks (ix4 b ⟨l.val / 512, by omega⟩ ⟨l.val / 128 % 4, by omega⟩ r)) := by
    pointwise [k0_pay1]
  refine e1.trans ?_
  rw [pay4_apply, pay3_apply]
  simp only [pay2_apply]
  have hh : headOf ⟨l.val / 512, by omega⟩ ⟨l.val / 128 % 4, by omega⟩ = (⟨l.val / 128, by omega⟩ : Fin 32) := Fin.ext (by unfold headOf; dsimp only; omega)
  have hg : (⟨l.val / 512, by omega⟩ : Fin 8) = ⟨l.val / 128 / 4, by omega⟩ := Fin.ext (by dsimp only; omega)
  unfold refScore
  rw [hh, hg]
  unfold attn attnHead attnRow
  rw [Finset.sum_range, Finset.sum_range]
  refine congrArg₂ (· * ·) (congrArg₂ (· * ·) (Finset.sum_congr rfl fun y _ => ?_) rfl) rfl
  exact mul_comm _ _

end Cert.Attn

end
-- ==== Proof.lean ====
/- The claims, assembled: the three frames, the reading of the kernel's one named constant, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Arrays
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The two result arrays are one: both are the attention of their arguments. -/
theorem results (m : (ℓ : Loc Cert.KernelIdeal.nD Cert.KernelIdeal.τ Cert.KernelIdeal.sig) → Buf (Elt Ideal) ℓ) (c : Dev Cert.KernelIdeal.nD) :
    Cert.KernelIdeal.Value.G6 (F := Ideal) m c = Cert.ReferenceIdeal.Value.G6 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  funext i
  rw [eq_ix3 i]
  exact (Cert.Attn.kernel_eq m c _ _ _).trans (Cert.Attn.reference_eq _ _ _ _ _ _ _ _ _).symm

theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5⟩ := hagree c
  rw [results, ← h0, ← h1, ← h2, ← h3, ← h4, ← h5]

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ,
    fun m ρ _ => Cert.ReferenceIdeal.Gen.frame m ρ,
    IdealRules.named_const.statement Cert.KernelIdeal.κ "log2e" .f32 0x3FB8AA3B#32 (((Real.log 2)⁻¹ : ℝ) : EReal) rfl, algebraic⟩⟩

end Cert.Proof

end
